-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![16384, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![16384, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4x1x1024 : Shape := ⟨3, ![4, 1, 1024]⟩
abbrev S6 : Shape := ⟨1, ![6]⟩
abbrev S8 : Shape := ⟨1, ![8]⟩
abbrev S_ : Shape := ⟨0, ![]⟩
abbrev S8x4096 : Shape := ⟨2, ![8, 4096]⟩
abbrev S4096x512 : Shape := ⟨2, ![4096, 512]⟩
abbrev S8x512 : Shape := ⟨2, ![8, 512]⟩
abbrev S1x512 : Shape := ⟨2, ![1, 512]⟩
abbrev S1x1x512 : Shape := ⟨3, ![1, 1, 512]⟩
abbrev S1 : Shape := ⟨1, ![1]⟩
abbrev S256x256 : Shape := ⟨2, ![256, 256]⟩
abbrev S4x1x512 : Shape := ⟨3, ![4, 1, 512]⟩
abbrev S4x512 : Shape := ⟨2, ![4, 512]⟩
abbrev S512 : Shape := ⟨1, ![512]⟩
abbrev S256x512 : Shape := ⟨2, ![256, 512]⟩

abbrev nBuf : Space → Nat
  | .hbm => 2
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .local _ .vmem, ⟨0, _⟩ => ⟨S4096x1024, .f32⟩
  | .local _ .vmem, ⟨1, _⟩ => ⟨S4096x1024, .f32⟩
  | .local _ .vmem, ⟨2, _⟩ => ⟨S4096x1024, .bf16⟩
  | .local _ .vmem, ⟨3, _⟩ => ⟨S4x1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_22 : BitVec 32 := 1#32
  let v29 : BitVec 32 := Scalar.addi v2 c1_i32_22
  let c4_i32_23 : BitVec 32 := 4#32
  let v30 : BitVec 32 := Scalar.remsi v29 c4_i32_23
  let c1_i32_27 : BitVec 32 := 1#32
  let v31 : BitVec 32 := Scalar.muli v30 c1_i32_27
  let v32 : BitVec 32 := Scalar.addi c0_i32_28 v31
  v32.toNat
def k0_dev5 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_33 : BitVec 32 := 2#32
  let v41 : BitVec 32 := Scalar.addi v2 c2_i32_33
  let c4_i32_34 : BitVec 32 := 4#32
  let v42 : BitVec 32 := Scalar.remsi v41 c4_i32_34
  let c1_i32_39 : BitVec 32 := 1#32
  let v43 : BitVec 32 := Scalar.muli v42 c1_i32_39
  let v44 : BitVec 32 := Scalar.addi c0_i32_40 v43
  v44.toNat
def k0_dev6 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_45 : BitVec 32 := 3#32
  let v53 : BitVec 32 := Scalar.addi v2 c3_i32_45
  let c4_i32_46 : BitVec 32 := 4#32
  let v54 : BitVec 32 := Scalar.remsi v53 c4_i32_46
  let c1_i32_51 : BitVec 32 := 1#32
  let v55 : BitVec 32 := Scalar.muli v54 c1_i32_51
  let v56 : BitVec 32 := Scalar.addi c0_i32_52 v55
  v56.toNat
def k0_dev7 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_66 : BitVec 32 := 1#32
  let v77 : BitVec 32 := Scalar.addi v2 c1_i32_66
  let c4_i32_67 : BitVec 32 := 4#32
  let v78 : BitVec 32 := Scalar.remsi v77 c4_i32_67
  let c1_i32_71 : BitVec 32 := 1#32
  let v79 : BitVec 32 := Scalar.muli v78 c1_i32_71
  let v80 : BitVec 32 := Scalar.addi c0_i32_72 v79
  v80.toNat
def k0_dev8 (d0 : Dev nD) : Nat :=
  let c0_i32_82 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_76 : BitVec 32 := 2#32
  let v89 : BitVec 32 := Scalar.addi v2 c2_i32_76
  let c4_i32_77 : BitVec 32 := 4#32
  let v90 : BitVec 32 := Scalar.remsi v89 c4_i32_77
  let c1_i32_81 : BitVec 32 := 1#32
  let v91 : BitVec 32 := Scalar.muli v90 c1_i32_81
  let v92 : BitVec 32 := Scalar.addi c0_i32_82 v91
  v92.toNat
def k0_dev9 (d0 : Dev nD) : Nat :=
  let c0_i32_94 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_87 : BitVec 32 := 3#32
  let v101 : BitVec 32 := Scalar.addi v2 c3_i32_87
  let c4_i32_88 : BitVec 32 := 4#32
  let v102 : BitVec 32 := Scalar.remsi v101 c4_i32_88
  let c1_i32_93 : BitVec 32 := 1#32
  let v103 : BitVec 32 := Scalar.muli v102 c1_i32_93
  let v104 : BitVec 32 := Scalar.addi c0_i32_94 v103
  v104.toNat
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x1024 : Shape := ⟨2, ![16384, 1024]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S_, .f32⟩
  | .hbm, ⟨2, _⟩ => ⟨S_, .f32⟩
  | .hbm, ⟨3, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.Contents.lean ====
/-
The buffers of the prefix-sum kernel, their pieces, and what each holds: the block of `x`, its rounded copy, the
rows of column totals that the devices exchange, and the result. Everything is stated over any float model `F`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.ValueIdxCore
public import Idealize.ShloMosaic.Lib.Tactic

@[expose] public section

noncomputable section

namespace Cert.PrefixProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)

variable {F : FTy → Type} [FloatOps F]

/-! ## Devices on the ring -/

set_option backward.proofsInPublic true in
/-- The device `k` places after `c`. -/
def sh (c : Dev nD) (k : Fin 4) : Dev nD := ⟨(c.val + k.val) % 4, Nat.mod_lt _ (by decide)⟩

set_option backward.proofsInPublic true in
/-- The distance that undoes `k`. -/
def neg (k : Fin 4) : Fin 4 := ⟨(4 - k.val) % 4, Nat.mod_lt _ (by decide)⟩

theorem neg_neg (k : Fin 4) : neg (neg k) = k := by revert k; decide
theorem sh_neg (c : Dev nD) (k : Fin 4) : sh (sh c k) (neg k) = c := by revert c k; decide
theorem neg_sh (c : Dev nD) (k : Fin 4) : sh (sh c (neg k)) k = c := by revert c k; decide
theorem sh_zero (c : Dev nD) : sh c 0 = c := by revert c; decide

/-! ## The buffers -/

/-- The staged block of `x`. -/
abbrev xM : Memref sig .tc .vmem S4096x1024 .f32 := Memref.whole cc0_stg0_0
/-- The staged block of the result. -/
abbrev oM : Memref sig .tc .vmem S4096x1024 .f32 := Memref.whole cc0_stg1_0
/-- The rounded copy of the block. -/
abbrev bM : Memref sig .tc .vmem S4096x1024 .bf16 := Memref.whole cc0_scratch0
/-- The four rows of column totals. -/
abbrev tM : Memref sig .tc .vmem S4x1x1024 .f32 := Memref.whole cc0_scratch1

/-! ## Rectangles -/

theorem half_inb (g : Fin 2) : ∀ a, (![0, 512 * g.val] : Fin 2 → ℕ) a + S4096x512.size a ≤ S4096x1024.size a := by
  revert g; decide
theorem blk_inb (n : Fin 16) (g : Fin 2) : ∀ a, (![256 * n.val, 512 * g.val] : Fin 2 → ℕ) a + S256x512.size a ≤ S4096x1024.size a := by
  revert n g; decide
theorem row_inb (j : Fin 4) (g : Fin 2) : ∀ a, (![j.val, 0, 512 * g.val] : Fin 3 → ℕ) a + S1x1x512.size a ≤ S4x1x1024.size a := by
  revert j g; decide
theorem col_inb (g : Fin 2) : ∀ a, (![0, 0, 512 * g.val] : Fin 3 → ℕ) a + S4x1x512.size a ≤ S4x1x1024.size a := by
  revert g; decide

/-- Column half `g` of a block. -/
abbrev halfR (g : Fin 2) : Rect S4096x1024 := Rect.unit (s := S4096x1024) ![0, 512 * g.val] S4096x512.size (half_inb g)
/-- The `n`-th 256 rows of column half `g`. -/
abbrev blkR (n : Fin 16) (g : Fin 2) : Rect S4096x1024 := Rect.unit (s := S4096x1024) ![256 * n.val, 512 * g.val] S256x512.size (blk_inb n g)
/-- Column half `g` of total row `j`. -/
abbrev rowR (j : Fin 4) (g : Fin 2) : Rect S4x1x1024 := Rect.unit (s := S4x1x1024) ![j.val, 0, 512 * g.val] S1x1x512.size (row_inb j g)
/-- Column half `g` of all four total rows. -/
abbrev colR (g : Fin 2) : Rect S4x1x1024 := Rect.unit (s := S4x1x1024) ![0, 0, 512 * g.val] S4x1x512.size (col_inb g)

/-- Column half `g` of total row `j` as the transfers name it. -/
abbrev rowM (j : Fin 4) (g : Fin 2) : Memref sig .tc .vmem S1x512 .f32 :=
  (tM.slice (rowR j g) (fun _ => rfl)).squeeze S1x512 squeezes_S1x1x512_S1x512

/-! ## Element sets -/

/-- The elements of column half `g`. -/
def halfSet (g : Fin 2) : Finset S4096x1024.Idx := Finset.univ.filter fun i => (i 1).val / 512 = g.val
/-- The elements of the `n`-th 256 rows of column half `g`. -/
def blkSet (n : Fin 16) (g : Fin 2) : Finset S4096x1024.Idx := Finset.univ.filter fun i => (i 0).val / 256 = n.val ∧ (i 1).val / 512 = g.val
/-- The elements of column half `g` of total row `j`. -/
def rowSet (j : Fin 4) (g : Fin 2) : Finset S4x1x1024.Idx := Finset.univ.filter fun i => (i 0).val = j.val ∧ (i 2).val / 512 = g.val
/-- The elements of column half `g` of all the total rows. -/
def colSet (g : Fin 2) : Finset S4x1x1024.Idx := Finset.univ.filter fun i => (i 2).val / 512 = g.val
/-- The elements of the result written by the first `p` blocks: first the blocks of half 0, then those of half 1. -/
def done (p : ℕ) : Finset S4096x1024.Idx := Finset.univ.filter fun i => (i 1).val / 512 * 16 + (i 0).val / 256 < p

theorem half_set (g : Fin 2) : (halfR g).set = halfSet g := by
  ext i
  have h0 : (i 0).val < 4096 := (i 0).isLt
  have h1 : (i 1).val < 1024 := (i 1).isLt
  rw [Rect.mem_set_unit, halfSet, Finset.mem_filter]
  refine ⟨fun h => ⟨Finset.mem_univ _, ?_⟩, fun h a => ?_⟩
  · have h' := h 1
    have e : (![0, 512 * g.val] : Fin 2 → ℕ) 1 = 512 * g.val := rfl
    have e' : S4096x512.size 1 = 512 := rfl
    omega
  · have h2 := h.2
    match a with
    | ⟨0, _⟩ => exact ⟨Nat.zero_le _, by show (i 0).val < 0 + 4096; omega⟩
    | ⟨1, _⟩ => exact ⟨by show 512 * g.val ≤ (i 1).val; omega, by show (i 1).val < 512 * g.val + 512; omega⟩

theorem blk_set (n : Fin 16) (g : Fin 2) : (blkR n g).set = blkSet n g := by
  ext i
  rw [Rect.mem_set_unit, blkSet, Finset.mem_filter]
  refine ⟨fun h => ⟨Finset.mem_univ _, ?_⟩, fun h a => ?_⟩
  · have h0 : 256 * n.val ≤ (i 0).val ∧ (i 0).val < 256 * n.val + 256 := h 0
    have h1 : 512 * g.val ≤ (i 1).val ∧ (i 1).val < 512 * g.val + 512 := h 1
    omega
  · have h2 := h.2
    match a with
    | ⟨0, _⟩ => exact ⟨by show 256 * n.val ≤ (i 0).val; omega, by show (i 0).val < 256 * n.val + 256; omega⟩
    | ⟨1, _⟩ => exact ⟨by show 512 * g.val ≤ (i 1).val; omega, by show (i 1).val < 512 * g.val + 512; omega⟩

theorem row_set (j : Fin 4) (g : Fin 2) : (rowR j g).set = rowSet j g := by
  ext i
  have hm : (i 1).val < 1 := (i 1).isLt
  rw [Rect.mem_set_unit, rowSet, Finset.mem_filter]
  refine ⟨fun h => ⟨Finset.mem_univ _, ?_⟩, fun h a => ?_⟩
  · have h0 : j.val ≤ (i 0).val ∧ (i 0).val < j.val + 1 := h 0
    have h1 : 512 * g.val ≤ (i 2).val ∧ (i 2).val < 512 * g.val + 512 := h 2
    omega
  · have h2 := h.2
    match a with
    | ⟨0, _⟩ => exact ⟨by show j.val ≤ (i 0).val; omega, by show (i 0).val < j.val + 1; omega⟩
    | ⟨1, _⟩ => exact ⟨by show 0 ≤ (i 1).val; omega, by show (i 1).val < 0 + 1; omega⟩
    | ⟨2, _⟩ => exact ⟨by show 512 * g.val ≤ (i 2).val; omega, by show (i 2).val < 512 * g.val + 512; omega⟩

theorem col_set (g : Fin 2) : (colR g).set = colSet g := by
  ext i
  have h0 : (i 0).val < 4 := (i 0).isLt
  have hm : (i 1).val < 1 := (i 1).isLt
  rw [Rect.mem_set_unit, colSet, Finset.mem_filter]
  refine ⟨fun h => ⟨Finset.mem_univ _, ?_⟩, fun h a => ?_⟩
  · have h1 : 512 * g.val ≤ (i 2).val ∧ (i 2).val < 512 * g.val + 512 := h 2
    omega
  · have h2 := h.2
    match a with
    | ⟨0, _⟩ => exact ⟨Nat.zero_le _, by show (i 0).val < 0 + 4; omega⟩
    | ⟨1, _⟩ => exact ⟨Nat.zero_le _, by show (i 1).val < 0 + 1; omega⟩
    | ⟨2, _⟩ => exact ⟨by show 512 * g.val ≤ (i 2).val; omega, by show (i 2).val < 512 * g.val + 512; omega⟩

theorem rowM_set (j : Fin 4) (g : Fin 2) : (rowM j g).view.set = rowSet j g := by
  show ((View.whole cc0_scratch1).slice (rowR j g) |>.reshape S1x512 _).set = _
  rw [View.set_reshape, View.set_slice_whole, row_set]

theorem tM_row_set (j : Fin 4) (g : Fin 2) : (tM.access (rowR j g)).set = rowSet j g := by
  show ((View.whole cc0_scratch1).slice (rowR j g)).set = _
  rw [View.set_slice_whole, row_set]
theorem tM_col_set (g : Fin 2) : (tM.access (colR g)).set = colSet g := by
  show ((View.whole cc0_scratch1).slice (colR g)).set = _
  rw [View.set_slice_whole, col_set]
theorem bM_half_set (g : Fin 2) : (bM.access (halfR g)).set = halfSet g := by
  show ((View.whole cc0_scratch0).slice (halfR g)).set = _
  rw [View.set_slice_whole, half_set]
theorem bM_blk_set (n : Fin 16) (g : Fin 2) : (bM.access (blkR n g)).set = blkSet n g := by
  show ((View.whole cc0_scratch0).slice (blkR n g)).set = _
  rw [View.set_slice_whole, blk_set]
theorem oM_blk_set (n : Fin 16) (g : Fin 2) : (oM.access (blkR n g)).set = blkSet n g := by
  show ((View.whole cc0_stg1_0).slice (blkR n g)).set = _
  rw [View.set_slice_whole, blk_set]

/-! ## Contents -/

variable (m : (ℓ : Loc nD τ sig) → Buf (Elt F) ℓ)

/-- Device `c`'s block of `x`. -/
def xstg (c : Dev nD) : (cc0_stg0_0 : Ref sig .tc).ty.Contents (Elt F) :=
  (win0_0.blk (0 : Fin 1)).view.read (Elt F) (m ((c : Thread nD τ).loc main_arg0))

/-- The rounded copy of device `c`'s block. -/
def xbOf (c : Dev nD) : (cc0_scratch0 : Ref sig .tc).ty.Contents (Elt F) :=
  (truncf .bf16 (xstg m c : FVec F S4096x1024 .f32) bitsLt_bf16_f32 : FVec F S4096x1024 .bf16)

/-- Column half `g` of the rounded copy. -/
def xhalf (c : Dev nD) (g : Fin 2) : Vec F S4096x512 .bf16 := bM.view.readAt (Elt F) (halfR g).toLoadRect (xbOf m c)

/-- The `n`-th 256 rows of column half `g` of the rounded copy. -/
def xblk (c : Dev nD) (g : Fin 2) (n : Fin 16) : Vec F S256x512 .bf16 := bM.view.readAt (Elt F) (blkR n g).toLoadRect (xbOf m c)

/-- The column totals of half `g` of device `c`'s block, one row. -/
def tot (c : Dev nD) (g : Fin 2) : FVec F S1x1x512 .f32 := k0_pay4 (k0_pay3 (xhalf m c g))

/-- What device `c`'s four rows of totals hold in the end: row `j` the totals of the device `j` places after it. -/
def commOf (c : Dev nD) : (cc0_scratch1 : Ref sig .tc).ty.Contents (Elt F) := fun (i : S4x1x1024.Idx) =>
  tot m (sh c (i 0)) ⟨(i 2).val / 512, by have : (i 2).val < 1024 := (i 2).isLt; omega⟩
    (ix3 0 0 ⟨(i 2).val % 512, Nat.mod_lt _ (by decide)⟩)

/-- Column half `g` of the four rows. -/
def tots (c : Dev nD) (g : Fin 2) : Vec F S4x1x512 .f32 := tM.view.readAt (Elt F) (colR g).toLoadRect (commOf m c)

/-- The device's number as the kernel computes it. -/
def devW (c : Dev nD) : BitVec 32 := Scalar.remsi (Scalar.divsi (Dev.word c) 1#32) 4#32

/-- The sum of the totals of the devices before `c`. -/
def offs (c : Dev nD) (g : Fin 2) : FVec F S1x512 .f32 := k0_pay8 (devW c) (tots m c g)

/-- The prefix sums within the `n`-th 256 rows. -/
def mm (c : Dev nD) (g : Fin 2) (n : Fin 16) : FVec F S256x512 .f32 := k0_pay9 k0_pay7 (xblk m c g n)

/-- The last row of those prefix sums. -/
def last (c : Dev nD) (g : Fin 2) (n : Fin 16) : FVec F S1x512 .f32 := k0_pay17 k0_pay7 (xblk m c g n)

/-- What precedes the `n`-th 256 rows: the totals of the devices before, then the blocks before. -/
def carry (c : Dev nD) (g : Fin 2) : ℕ → FVec F S1x512 .f32
  | 0 => offs m c g
  | n + 1 => addf (carry c g n) (last m c g (Fin.ofNat 16 n))

/-- The result's `n`-th 256 rows. -/
def outBlk (c : Dev nD) (g : Fin 2) (n : Fin 16) : FVec F S256x512 .f32 :=
  addf (mm m c g n) (broadcastTo S256x512 (carry m c g n.val) broadcasts_S1x512_S256x512)

/-- The result on device `c`. -/
def outOf (c : Dev nD) : (cc0_stg1_0 : Ref sig .tc).ty.Contents (Elt F) := fun (i : S4096x1024.Idx) =>
  outBlk m c ⟨(i 1).val / 512, by have : (i 1).val < 1024 := (i 1).isLt; omega⟩
    ⟨(i 0).val / 256, by have : (i 0).val < 4096 := (i 0).isLt; omega⟩
    (ix2 ⟨(i 0).val % 256, Nat.mod_lt _ (by decide)⟩ ⟨(i 1).val % 512, Nat.mod_lt _ (by decide)⟩)

/-! ## Reading the pieces -/

/-- Rounding a column half of the block gives that half of the rounded copy. -/
theorem pay2_half (c : Dev nD) (g : Fin 2) :
    k0_pay2 (xM.view.readAt (Elt F) (halfR g).toLoadRect (xstg m c)) = xhalf m c g := by
  unfold k0_pay2
  exact (shapeCast_self _ _).trans (congrArg (fun v : FVec F S4096x512 .f32 => truncf .bf16 v bitsLt_bf16_f32) (shapeCast_self _ _))

/-- The same for the second rounding of the kernel's text. -/
theorem pay5_half (c : Dev nD) (g : Fin 2) :
    k0_pay5 (xM.view.readAt (Elt F) (halfR g).toLoadRect (xstg m c)) = xhalf m c g := pay2_half m c g

theorem pay6_tot (c : Dev nD) (g : Fin 2) : k0_pay6 k0_pay1 (xhalf m c g) = tot m c g := rfl

/-- The result's contents, read at a block, are that block. -/
theorem read_outOf (c : Dev nD) (n : Fin 16) (g : Fin 2) : (oM.access (blkR n g)).read (Elt F) (outOf m c) = outBlk m c g n := by
  funext x
  have h0 : (x 0).val < 256 := (x 0).isLt
  have h1 : (x 1).val < 512 := (x 1).isLt
  show outOf m c ((blkR n g).emb x) = _
  have e0 : ((blkR n g).emb x 0).val = 256 * n.val + 1 * (x 0).val := rfl
  have e1 : ((blkR n g).emb x 1).val = 512 * g.val + 1 * (x 1).val := rfl
  unfold outOf
  congr 1
  · exact Fin.ext (by show ((blkR n g).emb x 1).val / 512 = g.val; rw [e1]; omega)
  · exact Fin.ext (by show ((blkR n g).emb x 0).val / 256 = n.val; rw [e0]; omega)
  · funext a
    match a with
    | ⟨0, _⟩ => exact Fin.ext (by show ((blkR n g).emb x 0).val % 256 = (x 0).val; rw [e0]; omega)
    | ⟨1, _⟩ => exact Fin.ext (by show ((blkR n g).emb x 1).val % 512 = (x 1).val; rw [e1]; omega)

/-- The rows of totals, read at half `g` of row `j`, are the totals of the device `j` places on. -/
theorem read_comm (c : Dev nD) (j : Fin 4) (g : Fin 2) : (tM.access (rowR j g)).read (Elt F) (commOf m c) = tot m (sh c j) g := by
  funext x
  have h0 : (x 0).val < 1 := (x 0).isLt
  have h1 : (x 1).val < 1 := (x 1).isLt
  have h2 : (x 2).val < 512 := (x 2).isLt
  show commOf m c ((rowR j g).emb x) = _
  have e0 : ((rowR j g).emb x 0).val = j.val + 1 * (x 0).val := rfl
  have e2 : ((rowR j g).emb x 2).val = 512 * g.val + 1 * (x 2).val := rfl
  unfold commOf
  congr 1
  · congr 1
    exact Fin.ext (by rw [e0]; omega)
  · exact Fin.ext (by show ((rowR j g).emb x 2).val / 512 = g.val; rw [e2]; omega)
  · funext a
    match a with
    | ⟨0, _⟩ => exact Fin.ext (by show 0 = (x 0).val; omega)
    | ⟨1, _⟩ => exact Fin.ext (by show 0 = (x 1).val; omega)
    | ⟨2, _⟩ => exact Fin.ext (by show ((rowR j g).emb x 2).val % 512 = (x 2).val; rw [e2]; omega)

/-! ## Writing the pieces -/

/-- What a transfer lands: row `neg k` of the receiver, at half `g`, holds what the receiver's rows should hold there. -/
theorem landed (c : Dev nD) (k : Fin 4) (g : Fin 2) (f : (cc0_scratch1 : Ref sig .tc).ty.Contents (Elt F)) :
    ∀ i ∈ rowSet (neg k) g, ((rowM (neg k) g).view.write (Elt F) f ((rowM 0 g).view.read (Elt F) (commOf m c)) Finset.univ : (cc0_scratch1 : Ref sig .tc).ty.Contents (Elt F)) i
      = commOf m (sh c k) i := by
  have hr : (rowM 0 g).view.read (Elt F) (commOf m c) = (rowM (neg k) g).view.read (Elt F) (commOf m (sh c k)) := by
    have h : (tM.access (rowR 0 g)).read (Elt F) (commOf m c) = (tM.access (rowR (neg k) g)).read (Elt F) (commOf m (sh c k)) := by
      rw [read_comm, read_comm, sh_neg, sh_zero]
    funext x
    exact congrFun h _
  intro i hi
  rw [hr, View.write_read_eq_piecewise]
  refine Finset.piecewise_eq_of_mem _ _ _ ?_
  rw [View.setOn_univ, rowM_set]
  exact hi

/-- The device's own totals stored: row 0, at half `g`, holds what it should. -/
theorem stored (c : Dev nD) (g : Fin 2) (f : (cc0_scratch1 : Ref sig .tc).ty.Contents (Elt F)) :
    ∀ i ∈ rowSet 0 g, ((tM.access (rowR 0 g)).write (Elt F) f (tot m c g) Finset.univ : (cc0_scratch1 : Ref sig .tc).ty.Contents (Elt F)) i = commOf m c i := by
  have hr : tot m c g = (tM.access (rowR 0 g)).read (Elt F) (commOf m c) := by rw [read_comm, sh_zero]
  intro i hi
  rw [hr, View.write_read_eq_piecewise]
  refine Finset.piecewise_eq_of_mem _ _ _ ?_
  rw [View.setOn_univ, tM_row_set]
  exact hi

/-- Half `g` of the rounded copy stored: it holds what it should there, and the other elements are kept. -/
theorem xb_stored (c : Dev nD) (g : Fin 2) (f : (cc0_scratch0 : Ref sig .tc).ty.Contents (Elt F)) (i : S4096x1024.Idx)
    (h : i ∈ halfSet g ∨ f i = xbOf m c i) :
    ((bM.access (halfR g)).write (Elt F) f (xhalf m c g) Finset.univ : (cc0_scratch0 : Ref sig .tc).ty.Contents (Elt F)) i = xbOf m c i := by
  have hr : xhalf m c g = (bM.access (halfR g)).read (Elt F) (xbOf m c) := rfl
  rw [hr, View.write_read_eq_piecewise, View.setOn_univ, bM_half_set]
  by_cases hi : i ∈ halfSet g
  · exact Finset.piecewise_eq_of_mem _ _ _ hi
  · exact (Finset.piecewise_eq_of_notMem _ _ _ hi).trans (h.resolve_left hi)

/-- One more block of the result stored. -/
theorem out_stored (c : Dev nD) (n : Fin 16) (g : Fin 2) (f : (cc0_stg1_0 : Ref sig .tc).ty.Contents (Elt F))
    (h : ∀ i ∈ done (16 * g.val + n.val), f i = outOf m c i) :
    ∀ i ∈ done (16 * g.val + n.val + 1),
      ((oM.access (blkR n g)).write (Elt F) f (outBlk m c g n) Finset.univ : (cc0_stg1_0 : Ref sig .tc).ty.Contents (Elt F)) i = outOf m c i := by
  intro i hi
  rw [← read_outOf m c n g, View.write_read_eq_piecewise, View.setOn_univ, oM_blk_set]
  by_cases hb : i ∈ blkSet n g
  · exact Finset.piecewise_eq_of_mem _ _ _ hb
  · refine (Finset.piecewise_eq_of_notMem _ _ _ hb).trans (h i ?_)
    have h0 : (i 0).val < 4096 := (i 0).isLt
    have h1 : (i 1).val < 1024 := (i 1).isLt
    have hn := n.isLt
    unfold done at hi ⊢
    unfold blkSet at hb
    rw [Finset.mem_filter] at hi hb ⊢
    refine ⟨Finset.mem_univ _, ?_⟩
    have hi' := hi.2
    by_contra hlt
    apply hb
    refine ⟨Finset.mem_univ _, ?_⟩
    omega

/-- After the last block every element is written. -/
theorem done_all : done 32 = Finset.univ := by
  ext i
  have h0 : (i 0).val < 4096 := (i 0).isLt
  have h1 : (i 1).val < 1024 := (i 1).isLt
  unfold done
  rw [Finset.mem_filter]
  exact ⟨fun _ => Finset.mem_univ _, fun _ => ⟨Finset.mem_univ _, by omega⟩⟩

theorem done_none : done 0 = ∅ := by
  unfold done; exact Finset.filter_false_of_mem fun i _ => Nat.not_lt_zero _

end Cert.PrefixProof

end
-- ==== Proof.Protocol.lean ====
/-
The protocol of the prefix-sum kernel under the rounds library: the cells of the entry handshake and of the six
transfers of each device, what each signal and each landing hands over, what every device owes at launch, and the levels
by which its waits are admitted.
-/
module

public import proofs.«01_k».proof.Proof.Contents

@[expose] public section

noncomputable section

namespace Cert.PrefixProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Cells -/

/-- The runtime's barrier semaphore. -/
abbrev barS : Sem sig := (SemArray.scalar (sig.barrier 0 rfl) : Sems sig S_).sem

set_option backward.proofsInPublic true in
/-- The kernel's cells on one device: the barrier, then the fourteen scratch semaphores in order (six of the sends,
    eight of the receives). -/
abbrev csem (i : Fin 15) : SemLoc sig :=
  if i.val = 0 then .reg barS else .dma (⟨i.val + 1, by have := i.isLt; show i.val + 1 < 16; omega⟩ : Fin 16)
set_option backward.proofsInPublic true in
/-- The scratch semaphores alone. -/
abbrev osem (i : Fin 14) : SemLoc sig := .dma (⟨i.val + 2, by have := i.isLt; show i.val + 2 < 16; omega⟩ : Fin 16)

abbrev kcell (ck : Dev nD × Fin 15) : GSem nD τ sig := ((ck.1 : Thread nD τ), csem ck.2)

set_option backward.proofsInPublic true in
/-- The place, among the cells, of the send of distance `k` of half `g`. -/
def sI (k : Fin 4) (g : Fin 2) : Fin 15 := ⟨(1 + 2 * (k.val - 1) + g.val) % 15, Nat.mod_lt _ (by decide)⟩
set_option backward.proofsInPublic true in
/-- The place, among the cells, of the receive into row `j`, half `g`. -/
def rI (j : Fin 4) (g : Fin 2) : Fin 15 := ⟨(7 + 2 * j.val + g.val) % 15, Nat.mod_lt _ (by decide)⟩

/-- One transfer's credit: a row of 512 words. -/
abbrev N : ℕ := (rowM 0 0).view.dmaCredit
theorem N_pos : 0 < N := View.dmaCredit_pos _ (by decide)

/-! ## Pieces of the rows of totals -/

/-- The quarters of a whole share; the sends of distance `k` read under quarter `k`, quarter 0 is kept. -/
def quarter (k : Fin 4) : PosShare TreeShare :=
  match k with
  | ⟨0, _⟩ => fullShare.left.left
  | ⟨1, _⟩ => fullShare.left.right
  | ⟨2, _⟩ => fullShare.right.left
  | ⟨_ + 3, _⟩ => fullShare.right.right

/-- Half `g` of total row `j` of device `c`, at share `q` and contents `f`. -/
def rowPts (c : Dev nD) (j : Fin 4) (g : Fin 2) (q : PosShare TreeShare) (f : Buf (Elt F) ((c : Thread nD τ).loc cc0_scratch1)) : sProp 𝕄 :=
  ((c : Thread nD τ).loc cc0_scratch1) ↦[rowSet j g]{q} f

omit [FloatOps F] in
instance rowPts_storable (c : Dev nD) (j g q f) : BI.Storable (upEmb : UEmb _ 𝕄) (rowPts (F := F) c j g q f) := by unfold rowPts; infer_instance

/-! ## The schedule -/

/-- What the signal of distance `d` hands device `c`: total row `d` of the device that sent it, both halves, whatever
    they hold. -/
def barPay (c : Dev nD) (d : Fin 4) : sProp 𝕄 :=
  iprop((∃ f, rowPts (sh c (neg d)) d 0 fullShare f) ∗ (∃ f, rowPts (sh c (neg d)) d 1 fullShare f))

/-- What a transfer's completion hands the device of the cell: for a send, the share of its own row that the transfer
    read; for a receive, the row landed. -/
def dmaPay (c : Dev nD) (q : Fin 16) : sProp 𝕄 :=
  if q.val < 8 then rowPts c 0 ⟨q.val % 2, Nat.mod_lt _ (by decide)⟩ (quarter ⟨(q.val / 2) % 4, Nat.mod_lt _ (by decide)⟩) (commOf m c)
  else rowPts c ⟨((q.val - 8) / 2) % 4, Nat.mod_lt _ (by decide)⟩ ⟨q.val % 2, Nat.mod_lt _ (by decide)⟩ fullShare (commOf m c)

/-- The duties of round 0 of a DMA cell: one, but none for the staging cells and for the two scratch cells no transfer
    uses. -/
def dmaDuties (q : Fin 16) : Finset (Fin 4) := if q.val < 2 ∨ q.val = 8 ∨ q.val = 9 then ∅ else {0}

/-- One round: a barrier cell has three duties of one unit, one for each other device; a transfer's cell has one, of the
    transfer's credit. -/
def rd : Rounds.Schedule (GSem nD τ sig) (Fin 4) 𝕄 where
  duties g r := if r = 0 ∧ g.1.2 = .tc then (match g.2 with | .reg _ => {1, 2, 3} | .dma q => dmaDuties q) else ∅
  unitless _ := False
  amount g _ _ := match g.2 with | .reg _ => 1 | .dma _ => N
  payload g _ d := match g.2 with | .reg _ => barPay g.1.1 d | .dma q => dmaPay m g.1.1 q
  amount_pos g _ _ _ := by
    obtain ⟨t, (s | q)⟩ := g
    · exact Nat.one_pos
    · exact N_pos

instance rd_payload_storable (g : GSem nD τ sig) (r : ℕ) (d : Fin 4) :
    BI.Storable (upEmb : UEmb _ 𝕄) ((rd (F := F) m).payload g r d) := by
  obtain ⟨t, (s | q)⟩ := g
  · show BI.Storable upEmb (barPay (F := F) t.1 d)
    unfold barPay; infer_instance
  · show BI.Storable upEmb (dmaPay (F := F) m t.1 q)
    unfold dmaPay; split <;> infer_instance

section Sched
variable (c : Dev nD)

/-- No round after the first has a duty. -/
theorem duties_later (g : GSem nD τ sig) : ∀ r, 1 ≤ r → (rd (F := F) m).duties g r = ∅ :=
  fun r hr => if_neg fun h => by omega
theorem duties_bar : (rd (F := F) m).duties (kcell (c, 0)) 0 = {1, 2, 3} := by
  show (if (0 = 0 ∧ (Proc.tc : Proc τ) = .tc) then ({1, 2, 3} : Finset (Fin 4)) else ∅) = _
  rw [if_pos ⟨rfl, rfl⟩]
/-- The duties of a scratch cell. -/
theorem duties_dma (i : Fin 15) (q : Fin 16) (hq : csem i = .dma q) : (rd (F := F) m).duties (kcell (c, i)) 0 = dmaDuties q := by
  show (if (0 = 0 ∧ (Proc.tc : Proc τ) = .tc) then (match csem i with | .reg _ => ({1, 2, 3} : Finset (Fin 4)) | .dma q => dmaDuties q) else ∅) = _
  rw [if_pos ⟨rfl, rfl⟩, hq]
theorem amount_dma (i : Fin 15) (q : Fin 16) (hq : csem i = .dma q) (d : Fin 4) : (rd (F := F) m).amount (kcell (c, i)) 0 d = N := by
  show (match csem i with | .reg _ => 1 | .dma _ => N) = _
  rw [hq]
theorem payload_dma (i : Fin 15) (q : Fin 16) (hq : csem i = .dma q) (d : Fin 4) : (rd (F := F) m).payload (kcell (c, i)) 0 d = dmaPay m c q := by
  show (match csem i with | .reg _ => barPay c d | .dma q => dmaPay m c q) = _
  rw [hq]
theorem amount_bar (d : Fin 4) : (rd (F := F) m).amount (kcell (c, 0)) 0 d = 1 := rfl
theorem payload_bar (d : Fin 4) : (rd (F := F) m).payload (kcell (c, 0)) 0 d = barPay c d := rfl
theorem expect_bar : (rd (F := F) m).expect (kcell (c, 0)) 0 = 3 := by
  unfold Schedule.expect Schedule.amountOf
  rw [duties_bar, Finset.sum_congr rfl fun d _ => amount_bar m c d, Finset.sum_const]; rfl
/-- A transfer's cell expects its one transfer. -/
theorem expect_dma (i : Fin 15) (q : Fin 16) (hq : csem i = .dma q) (hd : dmaDuties q = {0}) : (rd (F := F) m).expect (kcell (c, i)) 0 = N := by
  unfold Schedule.expect Schedule.amountOf
  rw [duties_dma m c i q hq, hd, Finset.sum_singleton, amount_dma m c i q hq]

/-- What the barrier wait yields: one row of each other device. -/
theorem rest_bar : bigSep ((rd (F := F) m).duties (kcell (c, 0)) 0 \ ∅) (fun d => (rd (F := F) m).payload (kcell (c, 0)) 0 d)
    = iprop(barPay c 1 ∗ barPay c 2 ∗ barPay c 3) := by
  rw [Finset.sdiff_empty, duties_bar]
  show bigSep {1, 2, 3} (fun d => barPay (F := F) c d) = _
  rw [bigSep_insert (by decide), bigSep_insert (by decide), bigSep_singleton]
  rfl
/-- What a transfer's wait yields. -/
theorem rest_dma (i : Fin 15) (q : Fin 16) (hq : csem i = .dma q) (hd : dmaDuties q = {0}) :
    bigSep ((rd (F := F) m).duties (kcell (c, i)) 0 \ ∅) (fun d => (rd (F := F) m).payload (kcell (c, i)) 0 d) = dmaPay m c q := by
  rw [Finset.sdiff_empty, duties_dma m c i q hq, hd, bigSep_singleton, payload_dma m c i q hq]

end Sched

/-! ## What each device owes at launch, and the tokens it pays with -/

set_option backward.proofsInPublic true in
/-- The nine units device `c` pays on other devices' cells, in the order of the program: the signals of distance 1, 2, 3,
    then the landings of distance 1, 2, 3 of half 0, then those of half 1. -/
abbrev tgt (c : Dev nD) (e : Fin 9) : Dev nD × Fin 15 :=
  match e with
  | ⟨0, _⟩ => (sh c 1, 0) | ⟨1, _⟩ => (sh c 2, 0) | ⟨2, _⟩ => (sh c 3, 0)
  | ⟨3, _⟩ => (sh c 1, rI 3 0) | ⟨4, _⟩ => (sh c 2, rI 2 0) | ⟨5, _⟩ => (sh c 3, rI 1 0)
  | ⟨6, _⟩ => (sh c 1, rI 3 1) | ⟨7, _⟩ => (sh c 2, rI 2 1) | ⟨_ + 8, _⟩ => (sh c 3, rI 1 1)
/-- How much each pays: a signal one unit, a landing a transfer's credit. -/
abbrev amt (i : Fin 15) : ℕ := if i.val = 0 then 1 else N
/-- Which duty of its cell each pays. -/
abbrev dty (e : Fin 9) : Fin 4 := match e with | ⟨0, _⟩ => 1 | ⟨1, _⟩ => 2 | ⟨2, _⟩ => 3 | ⟨_ + 3, _⟩ => 0

/-- What device `c` owes while the payments `l` are still to be made. -/
def owe (c : Dev nD) : List (Fin 9) → CellTallies nD τ sig Unit
  | [] => 0
  | e :: l => owe c l + tallyAt (kcell (tgt c e)) () (amt (tgt c e).2)

/-- All the payments, in order. -/
abbrev dues : List (Fin 9) := [0, 1, 2, 3, 4, 5, 6, 7, 8]

theorem owe_pos {c : Dev nD} {g : GSem nD τ sig} {u : Unit} : ∀ {l : List (Fin 9)}, 0 < owe c l g u → ∃ e ∈ l, g = kcell (tgt c e)
  | [], h => absurd h (Nat.lt_irrefl 0)
  | e :: l, h => by
    unfold owe at h
    rw [Pi.add_apply, Finsupp.add_apply, tallyAt_apply] at h
    by_cases hg : g = kcell (tgt c e) ∧ u = ()
    · exact ⟨e, List.mem_cons_self, hg.1⟩
    · rw [if_neg hg, add_zero] at h
      obtain ⟨e', he', h'⟩ := owe_pos h
      exact ⟨e', List.mem_cons_of_mem _ he', h'⟩

def L (g : GSem nD τ sig) : Finset Unit := if g.1.2 = .tc then {()} else ∅
/-- The barrier at 1, the receives at 2, everything else at 0. -/
def lv (g : GSem nD τ sig) (_ : Unit) : ℕ := match g.2 with | .reg _ => 1 | .dma q => if q.val < 8 then 0 else 2

theorem L_of_ne (g : GSem nD τ sig) (h : g.1.2 ≠ .tc) : L g = ∅ := if_neg h
theorem L_tc (c : Dev nD) (sm : SemLoc sig) : L ((c : Thread nD τ), sm) = {()} := if_pos rfl

set_option backward.proofsInPublic true in
/-- A signal's level is above the staging cells', -/
theorem lv_tgt (c : Dev nD) (e : Fin 9) : 0 < lv (kcell (tgt c e)) () := by
  show 0 < (match csem (tgt c e).2 with | .reg _ => 1 | .dma q => if q.val < 8 then 0 else 2)
  fin_cases e <;> decide +revert
set_option backward.proofsInPublic true in
/-- a landing's above the barrier's. -/
theorem lv_land (c : Dev nD) (e : Fin 9) (h : 3 ≤ e.val) : 1 < lv (kcell (tgt c e)) () := by
  show 1 < (match csem (tgt c e).2 with | .reg _ => 1 | .dma q => if q.val < 8 then 0 else 2)
  fin_cases e <;> first | exact absurd h (by decide) | decide +revert

omit [FloatOps F] in
/-- Any cell at level 0 may be waited on, whatever is owed. -/
theorem mayWait_low (c : Dev nD) (sm : SemLoc sig) (h : lv ((c : Thread nD τ), sm) () = 0) (l : List (Fin 9)) :
    (levAts L lv : sProp 𝕄) ⊢ MayWait (c : Thread nD τ) sm () (owe c l) :=
  MayOwe.of_cut (L := L) (lev := lv) 0 (fun p hp => by rw [Finset.mem_singleton.mp hp, L_tc]; exact Finset.mem_singleton_self _)
    (fun g u hg => by obtain ⟨e, -, rfl⟩ := owe_pos hg; exact Finset.mem_singleton_self _)
    (fun p hp => by rw [Finset.mem_singleton.mp hp]; exact h.le)
    (fun g u hg => by obtain ⟨e, -, rfl⟩ := owe_pos hg; exact lv_tgt c e)

omit [FloatOps F] in
/-- At the barrier wait only landings are owed, which lie above the barrier. -/
theorem mayWait_bar (c : Dev nD) : (levAts L lv : sProp 𝕄) ⊢ MayWait (c : Thread nD τ) (.reg barS) () (owe c [3, 4, 5, 6, 7, 8]) :=
  MayOwe.of_cut (L := L) (lev := lv) 1 (fun p hp => by rw [Finset.mem_singleton.mp hp, L_tc]; exact Finset.mem_singleton_self _)
    (fun g u hg => by obtain ⟨e, -, rfl⟩ := owe_pos hg; exact Finset.mem_singleton_self _)
    (fun p hp => by rw [Finset.mem_singleton.mp hp]; exact le_rfl)
    (fun g u hg => by
      obtain ⟨e, he, rfl⟩ := owe_pos hg
      exact lv_land c e ((by decide : ∀ e ∈ ([3, 4, 5, 6, 7, 8] : List (Fin 9)), 3 ≤ e.val) e he))

/-! ## The ghost state a device starts from -/

/-- The cells' invariants, at the names `K`, and that each cell is at round 0. -/
def records (K : Dev nD × Fin 15 → ℕ) : sProp 𝕄 :=
  bigSep Finset.univ fun x : Dev nD × Fin 15 => iprop(cellInv ER (rd m) (K x) (kcell x) ∗ reached ER (kcell x) 0)

instance records_persistent (K : Dev nD × Fin 15 → ℕ) : BI.Persistent (records m K) := by unfold records; infer_instance

/-- One cell's out of the records. -/
theorem records_elim (K : Dev nD × Fin 15 → ℕ) (c : Dev nD) (i : Fin 15) :
    records m K ⊢ iprop(cellInv ER (rd m) (K (c, i)) (kcell (c, i)) ∗ reached ER (kcell (c, i)) 0) := by
  unfold records
  exact BI.bigSep_elim (Φ := fun x : Dev nD × Fin 15 => iprop(cellInv ER (rd m) (K x) (kcell x) ∗ reached ER (kcell x) 0)) (Finset.mem_univ (c, i))

set_option backward.proofsInPublic true in
/-- The fifteen tokens device `c` pays with: nine on other devices' cells, six on its own send cells. -/
abbrev tokOf (x : Dev nD × Fin 15) : GSem nD τ sig × ℕ × Fin 4 :=
  if h : x.2.val < 9 then (kcell (tgt x.1 ⟨x.2.val, h⟩), 0, dty ⟨x.2.val, h⟩)
  else (kcell (x.1, ⟨x.2.val - 8, by have := x.2.isLt; omega⟩), 0, 0)

/-- The tokens of device `c`. -/
def payToks (c : Dev nD) : sProp 𝕄 := bigSep Finset.univ fun i : Fin 15 => dutyTok ER (tokOf (c, i)).1 (tokOf (c, i)).2.1 (tokOf (c, i)).2.2

/-- The credit device `c` waits with: three units of its barrier, a transfer's for each receive. -/
def creds (c : Dev nD) : sProp 𝕄 :=
  iprop(cred (tallyAt (kcell (c, 0)) () 3)
    ∗ cred (tallyAt (kcell (c, rI 1 0)) () N) ∗ cred (tallyAt (kcell (c, rI 2 0)) () N) ∗ cred (tallyAt (kcell (c, rI 3 0)) () N)
    ∗ cred (tallyAt (kcell (c, rI 1 1)) () N) ∗ cred (tallyAt (kcell (c, rI 2 1)) () N) ∗ cred (tallyAt (kcell (c, rI 3 1)) () N))

/-- What device `c` starts from, at the names `K`. -/
def ghost (K : Dev nD × Fin 15 → ℕ) (c : Dev nD) : sProp 𝕄 :=
  iprop(records m K ∗ (bigSep Finset.univ fun i : Fin 15 => atPos ER (kcell (c, i)) 0 ∅ 0) ∗ payToks c)

end Cert.PrefixProof

end
-- ==== Proof.Steps.lean ====
/-
One rule for each kind of step of the kernel's body: a signal, the barrier's wait, a transfer, a transfer's wait,
a block read and a block written. Each is stated once, at a symbolic device, distance, half and block.
-/
module

public import proofs.«01_k».proof.Proof.Protocol

@[expose] public section

noncomputable section

namespace Cert.PrefixProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## What the body holds -/

/-- Half `g` of total row `j` of device `c`, whatever it holds. -/
def rowAny (c : Dev nD) (j : Fin 4) (g : Fin 2) : sProp 𝕄 := iprop(∃ f, rowPts c j g fullShare f)
/-- The staged block of `x`. -/
def xPts (c : Dev nD) : sProp 𝕄 := ((c : Thread nD τ).loc cc0_stg0_0) ↦{fullShare} (xstg m c)
/-- The rounded copy's buffer, right on the elements `S`. -/
def bPts (c : Dev nD) (S : Finset S4096x1024.Idx) : sProp 𝕄 :=
  iprop(∃ f : Buf (Elt F) ((c : Thread nD τ).loc cc0_scratch0), ⌜∀ i ∈ S, f i = xbOf m c i⌝ ∗ (((c : Thread nD τ).loc cc0_scratch0) ↦{fullShare} f))
/-- The result's buffer, its first `p` blocks written. -/
def oPts (c : Dev nD) (p : ℕ) : sProp 𝕄 :=
  iprop(∃ f : Buf (Elt F) ((c : Thread nD τ).loc cc0_stg1_0), ⌜∀ i ∈ done p, f i = outOf m c i⌝ ∗ (((c : Thread nD τ).loc cc0_stg1_0) ↦{fullShare} f))
/-- What device `c` owes, whatever it has waited on. -/
def owesE (c : Dev nD) (O : CellTallies nD τ sig Unit) : sProp 𝕄 := iprop(∃ W : Waits sig Unit, owes (c : Thread nD τ) O W)

/-! ## The semaphores of the transfers -/

set_option backward.proofsInPublic true in
/-- The semaphore of the send of distance `k` of half `g`. -/
abbrev qS (k : Fin 4) (g : Fin 2) : Fin 16 := ⟨(2 + 2 * (k.val - 1) + g.val) % 16, Nat.mod_lt _ (by decide)⟩
set_option backward.proofsInPublic true in
/-- The semaphore of the receive into row `j`, half `g`. -/
abbrev qR (j : Fin 4) (g : Fin 2) : Fin 16 := ⟨(8 + 2 * j.val + g.val) % 16, Nat.mod_lt _ (by decide)⟩

set_option backward.proofsInPublic true in
theorem csem_sI (k : Fin 4) (g : Fin 2) (hk : k ≠ 0) : csem (sI k g) = .dma (qS k g) := by revert k g; decide
set_option backward.proofsInPublic true in
theorem csem_rI (j : Fin 4) (g : Fin 2) : csem (rI j g) = .dma (qR j g) := by revert j g; decide
set_option backward.proofsInPublic true in
theorem duties_qS (k : Fin 4) (g : Fin 2) (hk : k ≠ 0) : dmaDuties (qS k g) = {0} := by revert k g; decide
set_option backward.proofsInPublic true in
theorem duties_qR (j : Fin 4) (g : Fin 2) (hj : j ≠ 0) : dmaDuties (qR j g) = {0} := by revert j g; decide

theorem pay_qS (c : Dev nD) (k : Fin 4) (g : Fin 2) (hk : k ≠ 0) : dmaPay m c (qS k g) = rowPts c 0 g (quarter k) (commOf m c) := by
  fin_cases k <;> fin_cases g <;> first | exact absurd rfl hk | rfl
theorem pay_qR (c : Dev nD) (j : Fin 4) (g : Fin 2) (hj : j ≠ 0) : dmaPay m c (qR j g) = rowPts c j g fullShare (commOf m c) := by
  fin_cases j <;> fin_cases g <;> first | exact absurd rfl hj | rfl

section Steps

variable (K : Dev nD × Fin 15 → ℕ) {α : Type}

/-! ## Signals and waits -/

set_option backward.proofsInPublic true in
/-- The signal of distance `d`: it hands the other device this device's row `d`. -/
theorem step_signal (c : Dev nD) (d : Fin 4) (hd : d ≠ 0) (e : Fin 9) (l : List (Fin 9)) (ht : tgt c e = (sh c d, 0)) {n : Dev nD}
    {k : PUnit → Prog (TpuEff nD τ sig (Elt F) Λ₀ .tc) α} {Q : α → sProp 𝕄} :
    iprop(⌜n = sh c d⌝ ∗ records m K ∗ owesE c (owe c (e :: l)) ∗ dutyTok ER (kcell (sh c d, 0)) 0 d ∗ rowAny c d 0 ∗ rowAny c d 1)
      ⊢ iprop((owesE c (owe c l) -∗ wp frame (wpE (defs₀ (F := F)) 𝒱₀ (c : Thread nD τ) none) Set.univ (k PUnit.unit) Q)
          -∗ wp frame (wpE (defs₀ (F := F)) 𝒱₀ (c : Thread nD τ) none) Set.univ (.op (.semSignal (n : Thread nD τ) barS 1) k) Q) := by
  have hmem : d ∈ (rd m).duties (kcell (sh c d, 0)) 0 := by
    rw [duties_bar]; exact (by decide : ∀ d : Fin 4, d ≠ 0 → d ∈ ({1, 2, 3} : Finset (Fin 4))) d hd
  have hO : owe c (e :: l) = owe c l + tallyAt (kcell (sh c d, 0)) () 1 := by
    show owe c l + tallyAt (kcell (tgt c e)) () (amt (tgt c e).2) = _
    rw [ht]; rfl
  have hp : (rd m).payload ((sh c d : Thread nD τ), SemLoc.reg barS) 0 d = barPay (sh c d) d := payload_bar m (sh c d) d
  iintro ⟨%hn, #HK, HO, Ht, H0, H1⟩ Hk
  subst hn
  ihave Hc := (records_elim m K (sh c d) 0) $$ HK
  icases Hc with ⟨#Hi, #Hr⟩
  unfold owesE
  icases HO with ⟨%W, HO⟩
  iapply (Rounds.wp_signal 𝒱₀ ER (rd m) (c : Thread nD τ) none (dst := (sh c d : Thread nD τ)) (κ := K (sh c d, 0)) (d := d) (k' := 1)
      hmem (amount_bar m (sh c d) d) () (O₀ := owe c (e :: l)) (owe c l) hO (W := W)) $$ [HO Ht H0 H1]
  · isplitr; · iexact Hi
    isplitl [HO]; · iexact HO
    isplitl [Ht]; · iexact Ht
    isplitl
    · rw [hp]
      unfold barPay rowAny
      rw [sh_neg]
      isplitl [H0]; · iexact H0
      iexact H1
    iexact Hr
  iintro HO
  iapply Hk
  iexists W
  iexact HO

/-- The barrier's wait: the rows of the three other devices that this device will write. -/
theorem step_barrier (c : Dev nD) {k : PUnit → Prog (TpuEff nD τ sig (Elt F) Λ₀ .tc) α} {Q : α → sProp 𝕄} :
    iprop(records m K ∗ levAts L lv ∗ owesE c (owe c [3, 4, 5, 6, 7, 8]) ∗ cred (tallyAt (kcell (c, 0)) () 3) ∗ atPos ER (kcell (c, 0)) 0 ∅ 0)
      ⊢ iprop(((owesE c (owe c [3, 4, 5, 6, 7, 8]) ∗ atPos ER (kcell (c, 0)) (0 + 1) ∅ 0
            ∗ barPay c 1 ∗ barPay c 2 ∗ barPay c 3) -∗ wp frame (wpE (defs₀ (F := F)) 𝒱₀ (c : Thread nD τ) none) Set.univ (k PUnit.unit) Q)
          -∗ wp frame (wpE (defs₀ (F := F)) 𝒱₀ (c : Thread nD τ) none) Set.univ (.op (.semWait barS 3) k) Q) := by
  have hrest := rest_bar m c
  have es : kcell (c, 0) = ((c : Thread nD τ), SemLoc.reg barS) := rfl
  have hex := expect_bar m c
  rw [es] at hrest hex
  iintro ⟨#HK, #Hlev, HO, Hc, Ha⟩ Hk
  ihave Hi := (records_elim m K c 0) $$ HK
  icases Hi with ⟨#Hi, -⟩
  unfold owesE
  icases HO with ⟨%W, HO⟩
  iapply (Rounds.wp_wait_rest_token 𝒱₀ ER (rd m) (c : Thread nD τ) none (κ := K (c, 0))
      (wpE_semWait_eq 𝒱₀ (c : Thread nD τ) none Set.univ) (Set.mem_univ _) () (O := owe c [3, 4, 5, 6, 7, 8]) (W := W) (R := 0) (m := 0) (T := ∅)
      ((Nat.zero_add 3).trans hex.symm)) $$ [HO Hc Ha]
  · isplitr; · iexact Hi
    isplitl [Hc]; · iexact Hc
    isplitl [HO]; · iexact HO
    isplitr; · iapply (mayWait_bar c); iexact Hlev
    iexact Ha
  iintro ⟨HO, Ha, -, Hp⟩
  ihave Hp' := (Entails.of_eq hrest) $$ Hp
  iapply Hk
  isplitl [HO]; · iexists _; iexact HO
  isplitl [Ha]; · iexact Ha
  iexact Hp'

set_option maxHeartbeats 1000000 in
/-- The transfer of distance `k` of half `g`, into row `j = neg k` of the device `k` places on. -/
theorem step_send (c : Dev nD) (k j : Fin 4) (g : Fin 2) (e : Fin 9) (l : List (Fin 9)) (hj : j = neg k) (hk : k ≠ 0)
    (ht : tgt c e = (sh c k, rI j g)) {n : Dev nD} {src : Memref sig .tc .vmem S1x512 .f32}
    {dst : Memref sig (Dev.tc n : Thread nD τ).2.kind .vmem S1x512 .f32} {sS sR : DmaSem sig}
    {hsc : dst.view.ref.isScScratch = false} {hsrc : src.view.WordExact} {hdst : dst.view.WordExact}
    {hsem : DmaTarget.Typed .vmem (.dma sR) (.remote (Dev.tc n : Thread nD τ) dst (.dma sS) hsc)}
    {kk : PUnit → Prog (TpuEff nD τ sig (Elt F) Λ₀ .tc) α} {Q : α → sProp 𝕄} :
    iprop(⌜n = sh c k ∧ src = rowM 0 g ∧ dst = (rowM j g : Memref sig .tc .vmem S1x512 .f32) ∧ sS = qS k g ∧ sR = qR j g⌝
        ∗ records m K ∗ rowPts c 0 g (quarter k) (commOf m c) ∗ rowAny (sh c k) j g ∗ owesE c (owe c (e :: l))
        ∗ dutyTok ER (kcell (c, sI k g)) 0 0 ∗ dutyTok ER (kcell (sh c k, rI j g)) 0 0)
      ⊢ iprop(((cred (tallyAt (kcell (c, sI k g)) () N) ∗ owesE c (owe c l))
            -∗ wp frame (wpE (defs₀ (F := F)) 𝒱₀ (c : Thread nD τ) none) Set.univ (kk PUnit.unit) Q)
          -∗ wp frame (wpE (defs₀ (F := F)) 𝒱₀ (c : Thread nD τ) none) Set.univ
              (.op (.enqueueDma src (.remote (Dev.tc n : Thread nD τ) dst (.dma sS) hsc) (.dma sR) hsrc hdst hsem) kk) Q) := by
  subst hj
  have hnk : neg k ≠ 0 := (by decide : ∀ k : Fin 4, k ≠ 0 → neg k ≠ 0) k hk
  iintro ⟨%he, #HK, H0, Hn, HO, Hts, Htr⟩ Hk
  ihave Hs := (records_elim m K c (sI k g)) $$ HK
  icases Hs with ⟨#His, #Hrs⟩
  ihave Hr := (records_elim m K (sh c k) (rI (neg k) g)) $$ HK
  icases Hr with ⟨#Hir, #Hrr⟩
  obtain ⟨rfl, rfl, rfl, rfl, rfl⟩ := he
  unfold owesE rowAny
  icases HO with ⟨%W, HO⟩
  icases Hn with ⟨%fn, Hn⟩
  have es : kcell (c, sI k g) = ((c : Thread nD τ), SemLoc.dma (qS k g)) := congrArg (Prod.mk (c : Thread nD τ)) (csem_sI k g hk)
  have er : kcell (sh c k, rI (neg k) g) = ((sh c k : Thread nD τ), SemLoc.dma (qR (neg k) g)) := congrArg (Prod.mk (sh c k : Thread nD τ)) (csem_rI (neg k) g)
  have hO : owe c (e :: l) = owe c l + tallyAt (kcell (sh c k, rI (neg k) g)) () N := by
    show owe c l + tallyAt (kcell (tgt c e)) () (amt (tgt c e).2) = _
    rw [ht]
    have ha : amt (rI (neg k) g) = N := if_neg ((by decide : ∀ (j : Fin 4) (g : Fin 2), (rI j g).val ≠ 0) (neg k) g)
    rw [ha]
  have d1 : (0 : Fin 4) ∈ (rd m).duties (kcell (c, sI k g)) 0 := by
    rw [duties_dma m c _ _ (csem_sI k g hk), duties_qS k g hk]; exact Finset.mem_singleton_self _
  have d2 : (0 : Fin 4) ∈ (rd m).duties (kcell (sh c k, rI (neg k) g)) 0 := by
    rw [duties_dma m _ _ _ (csem_rI (neg k) g), duties_qR _ g hnk]; exact Finset.mem_singleton_self _
  have a1 := amount_dma m c _ _ (csem_sI k g hk) 0
  have a2 := amount_dma m (sh c k) _ _ (csem_rI (neg k) g) 0
  have p1 : (rowPts c 0 g (quarter k) (commOf m c) : sProp 𝕄) = (rd m).payload (kcell (c, sI k g)) 0 0 := by
    rw [payload_dma m c _ _ (csem_sI k g hk), pay_qS m c k g hk]
  have p2 : (rowPts (sh c k) (neg k) g fullShare (commOf m (sh c k)) : sProp 𝕄) = (rd m).payload (kcell (sh c k, rI (neg k) g)) 0 0 := by
    rw [payload_dma m _ _ _ (csem_rI (neg k) g), pay_qR m _ _ g hnk]
  rw [es] at d1 a1 p1 ⊢
  rw [er] at d2 a2 p2 hO ⊢
  iapply (Rounds.wp_send_pointsTo 𝒱₀ ER (rd m) (c : Thread nD τ) none (c' := (sh c k : Thread nD τ)) (src := rowM 0 g) (dst := rowM (neg k) g) (κ₁ := K (c, sI k g)) (κ₂ := K (sh c k, rI (neg k) g))
    (r₁ := 0) (r₂ := 0) (d₁ := 0) (d₂ := 0) (q := quarter k) (fs := commOf m c) (fd := fn) d1 d2 () () N rfl a1 a2 (owe c l) hO (W := W)
    (by rw [rowM_set]; exact Entails.of_eq p1)
    (by
      rw [rowM_set]
      refine Entails.of_eq (Eq.trans ?_ p2)
      unfold rowPts
      exact pointsTo_congr (landed m c k g fn))) $$ [H0 Hn HO Hts Htr]
  · isplitr; · iexact His
    isplitr; · iexact Hir
    isplitl [H0]; · rw [rowM_set]; unfold rowPts; iexact H0
    isplitl [Hn]; · rw [rowM_set]; unfold rowPts; iexact Hn
    isplitl [HO]; · iexact HO
    isplitl [Hts]; · iexact Hts
    isplitr; · iexact Hrs
    isplitl [Htr]; · iexact Htr
    iexact Hrr
  iintro ⟨Hc, HO⟩
  iapply Hk
  isplitl [Hc]; · iexact Hc
  iexists W
  iexact HO

/-- A transfer's wait, nothing owed: what the transfer hands over. -/
theorem step_wait (c : Dev nD) (i : Fin 15) (q : Fin 16) (hq : csem i = .dma q) (hd : dmaDuties q = {0}) {src dst : Memref sig .tc .vmem S1x512 .f32}
    {sm : DmaSem sig}
    {hsrc : src.view.WordExact} {hdst : dst.view.WordExact}
    {k : PUnit → Prog (TpuEff nD τ sig (Elt F) Λ₀ .tc) α} {Q : α → sProp 𝕄} :
    iprop(⌜sm = q ∧ dst.view.dmaCredit = N⌝ ∗ records m K ∗ owesE c 0 ∗ cred (tallyAt (kcell (c, i)) () N) ∗ atPos ER (kcell (c, i)) 0 ∅ 0)
      ⊢ iprop(((owesE c 0 ∗ atPos ER (kcell (c, i)) (0 + 1) ∅ 0 ∗ dmaPay m c q)
            -∗ wp frame (wpE (defs₀ (F := F)) 𝒱₀ (c : Thread nD τ) none) Set.univ (k PUnit.unit) Q)
          -∗ wp frame (wpE (defs₀ (F := F)) 𝒱₀ (c : Thread nD τ) none) Set.univ (.op (.waitDma2 sm src dst hsrc hdst) k) Q) := by
  have hex := expect_dma m c i q hq hd
  have hrest := rest_dma m c i q hq hd
  have es : kcell (c, i) = ((c : Thread nD τ), SemLoc.dma q) := congrArg (Prod.mk (c : Thread nD τ)) hq
  iintro ⟨%he, #HK, HO, Hc, Ha⟩ Hk
  obtain ⟨rfl, hN⟩ := he
  ihave Hi := (records_elim m K c i) $$ HK
  icases Hi with ⟨#Hi, -⟩
  unfold owesE
  icases HO with ⟨%W, HO⟩
  rw [es] at hex hrest ⊢
  iapply (Rounds.wp_wait_rest_token 𝒱₀ ER (rd m) (c : Thread nD τ) none (κ := K (c, i)) (k' := dst.view.dmaCredit)
      (wpE_waitDma2_eq 𝒱₀ (c : Thread nD τ) none Set.univ) (Set.mem_univ _) () (O := 0) (W := W) (R := 0) (m := 0) (T := ∅)
      (by rw [Nat.zero_add, hex, hN])) $$ [HO Hc Ha]
  · isplitr; · iexact Hi
    isplitl [Hc]; · rw [hN]; iexact Hc
    isplitl [HO]; · iexact HO
    isplitr; · rw [MayWait_zero]; iempintro
    iexact Ha
  iintro ⟨HO, Ha, -, Hp⟩
  ihave Hp' := (Entails.of_eq hrest) $$ Hp
  iapply Hk
  isplitl [HO]; · iexists _; iexact HO
  isplitl [Ha]; · iexact Ha
  iexact Hp'

/-- A cell closes: its counter is at zero. -/
theorem step_close (c : Dev nD) (i : Fin 15) (R : ℕ) (hR : ∀ r, R ≤ r → (rd (F := F) m).duties (kcell (c, i)) r = ∅) :
    iprop(records m K ∗ atPos ER (kcell (c, i)) R ∅ 0) ⊢ iprop(|={Set.univ}=> semVal (kcell (c, i)) 0) := by
  iintro ⟨#HK, Ha⟩
  ihave Hi := (records_elim m K c i) $$ HK
  icases Hi with ⟨#Hi, -⟩
  iapply (Rounds.cell_close ER (rd m) (Set.mem_univ (K (c, i))) (fun h => h) (R := R) hR)
  isplitr; · iexact Hi
  iexact Ha

end Steps

end Cert.PrefixProof

end
-- ==== Proof.Blocks.lean ====
/-
The steps of the kernel's body that touch memory: rounding a column half, storing the device's own totals, reading the
four rows of totals, reading a block and storing a block of the result.
-/
module

public import proofs.«01_k».proof.Proof.Steps

@[expose] public section

noncomputable section

namespace Cert.PrefixProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) {α : Type}

omit [FloatOps F] in
/-- A result in another spelling. -/
theorem ret_eq (Q : α → sProp 𝕄) (r' : α) {r : α} : iprop(⌜r = r'⌝ ∗ Q r') ⊢ Q r := by
  iintro ⟨%h, H⟩
  subst h
  iexact H

/-! ## The rounded copy -/

set_option maxHeartbeats 400000 in
/-- Rounding column half `g`: the half read, rounded, stored and read back. -/
theorem step_round (c : Dev nD) (g : Fin 2) (S : Finset S4096x1024.Idx) {b : ℕ}
    {hin : ∀ a, (![0, b] : Fin 2 → ℕ) a + S4096x512.size a ≤ S4096x1024.size a}
    {w : Vec F S4096x512 .f32 → Vec F S4096x512 .bf16}
    {h1 : xM.view.LoadsAt (Rect.unit (s := S4096x1024) ![0, b] S4096x512.size hin).toLoadRect}
    {h2 : bM.view.LoadsAt (Rect.unit (s := S4096x1024) ![0, b] S4096x512.size hin).toLoadRect}
    {h3 : bM.view.LoadsAt (Rect.unit (s := S4096x1024) ![0, b] S4096x512.size hin).toLoadRect}
    {hx : (bM.access (Rect.unit (s := S4096x1024) ![0, b] S4096x512.size hin)).Stores Finset.univ}
    {hm : (Finset.univ : Finset (Rect.unit (s := S4096x1024) ![0, b] S4096x512.size hin).shape.Idx) = Finset.univ
      ∨ ∀ a, (Rect.unit (s := S4096x1024) ![0, b] S4096x512.size hin).stride a = 1}
    {k : Vec F S4096x512 .bf16 → Prog (TpuEff nD τ sig (Elt F) Λ₀ .tc) α} {Q : α → sProp 𝕄} :
    iprop(⌜b = 512 * g.val ∧ w (xM.view.readAt (Elt F) (halfR g).toLoadRect (xstg m c)) = xhalf m c g⌝ ∗ xPts m c ∗ bPts m c S)
      ⊢ iprop(((xPts m c ∗ bPts m c (S ∪ halfSet g)) -∗ wp frame (wpE (defs₀ (F := F)) 𝒱₀ (c : Thread nD τ) none) Set.univ (k (xhalf m c g)) Q)
          -∗ wp frame (wpE (defs₀ (F := F)) 𝒱₀ (c : Thread nD τ) none) Set.univ
            (.op (.load xM (Rect.unit (s := S4096x1024) ![0, b] S4096x512.size hin).toLoadRect h1) fun v =>
              .op (.load bM (Rect.unit (s := S4096x1024) ![0, b] S4096x512.size hin).toLoadRect h2) fun _ =>
              .op (.store bM (Rect.unit (s := S4096x1024) ![0, b] S4096x512.size hin) (w v) Finset.univ hx hm) fun _ =>
              .op (.load bM (Rect.unit (s := S4096x1024) ![0, b] S4096x512.size hin).toLoadRect h3) k) Q) := by
  iintro ⟨%he, Hx, Hb⟩ Hk
  obtain ⟨rfl, hw⟩ := he
  unfold xPts bPts
  icases Hb with ⟨%f, %hf, Hb⟩
  iapply (wp_load 𝒱₀ (c : Thread nD τ) none Set.univ (m := xM) (Finset.subset_univ _)) $$ Hx; iintro Hx
  iapply (wp_load 𝒱₀ (c : Thread nD τ) none Set.univ (m := bM) (Finset.subset_univ _)) $$ Hb; iintro Hb
  iapply (wp_store 𝒱₀ (c : Thread nD τ) none Set.univ (m := bM) (r := halfR g) (Mk := Finset.univ) (Finset.subset_univ _)) $$ Hb; iintro Hb
  iapply (wp_load 𝒱₀ (c : Thread nD τ) none Set.univ (m := bM) (Finset.subset_univ _)) $$ Hb; iintro Hb
  rw [hw]
  have hnew := xb_stored m c g f
  have hread : bM.view.readAt (Elt F) (halfR g).toLoadRect ((bM.access (halfR g)).write (Elt F) f (xhalf m c g) Finset.univ) = xhalf m c g :=
    bM.view.readAt_congr (Val := Elt F) fun i hi => hnew i (.inl (by rw [← bM_half_set g, View.set_slice]; exact hi))
  rw [hread]
  iapply Hk
  isplitl [Hx]; · iexact Hx
  iexists _
  isplitr
  · ipureintro
    intro i hi
    rcases Finset.mem_union.mp hi with h | h
    · exact hnew i (.inr (hf i h))
    · exact hnew i (.inl h)
  iexact Hb

/-! ## Blocks -/

/-- Reading the `n`-th block of half `g` of the rounded copy. -/
theorem step_get (c : Dev nD) (n : Fin 16) (g : Fin 2) {a b : ℕ}
    {hin : ∀ i, (![a, b] : Fin 2 → ℕ) i + S256x512.size i ≤ S4096x1024.size i}
    {h : bM.view.LoadsAt (Rect.unit (s := S4096x1024) ![a, b] S256x512.size hin).toLoadRect}
    {k : Vec F S256x512 .bf16 → Prog (TpuEff nD τ sig (Elt F) Λ₀ .tc) α} {Q : α → sProp 𝕄} :
    iprop(⌜a = 256 * n.val ∧ b = 512 * g.val⌝ ∗ bPts m c Finset.univ)
      ⊢ iprop((bPts m c Finset.univ -∗ wp frame (wpE (defs₀ (F := F)) 𝒱₀ (c : Thread nD τ) none) Set.univ (k (xblk m c g n)) Q)
          -∗ wp frame (wpE (defs₀ (F := F)) 𝒱₀ (c : Thread nD τ) none) Set.univ
            (.op (.load bM (Rect.unit (s := S4096x1024) ![a, b] S256x512.size hin).toLoadRect h) k) Q) := by
  iintro ⟨%he, Hb⟩ Hk
  obtain ⟨rfl, rfl⟩ := he
  unfold bPts
  icases Hb with ⟨%f, %hf, Hb⟩
  iapply (wp_load 𝒱₀ (c : Thread nD τ) none Set.univ (m := bM) (Finset.subset_univ _)) $$ Hb; iintro Hb
  have hread : bM.view.readAt (Elt F) (blkR n g).toLoadRect f = xblk m c g n :=
    bM.view.readAt_congr (Val := Elt F) fun i _ => hf i (Finset.mem_univ i)
  rw [hread]
  iapply Hk
  iexists f
  isplitr; · ipureintro; exact hf
  iexact Hb

/-- Storing the `n`-th block of half `g` of the result, the element set growing by it. -/
theorem step_put (c : Dev nD) (n : Fin 16) (g : Fin 2) (p : ℕ) (hp : p = 16 * g.val + n.val) {a b : ℕ}
    {hin : ∀ i, (![a, b] : Fin 2 → ℕ) i + S256x512.size i ≤ S4096x1024.size i}
    {w : Vec F S256x512 .f32}
    {h : oM.view.LoadsAt (Rect.unit (s := S4096x1024) ![a, b] S256x512.size hin).toLoadRect}
    {hx : (oM.access (Rect.unit (s := S4096x1024) ![a, b] S256x512.size hin)).Stores Finset.univ}
    {hm : (Finset.univ : Finset (Rect.unit (s := S4096x1024) ![a, b] S256x512.size hin).shape.Idx) = Finset.univ
      ∨ ∀ i, (Rect.unit (s := S4096x1024) ![a, b] S256x512.size hin).stride i = 1}
    {k : PUnit → Prog (TpuEff nD τ sig (Elt F) Λ₀ .tc) α} {Q : α → sProp 𝕄} :
    iprop(⌜a = 256 * n.val ∧ b = 512 * g.val ∧ w = outBlk m c g n⌝ ∗ oPts m c p)
      ⊢ iprop((oPts m c (p + 1) -∗ wp frame (wpE (defs₀ (F := F)) 𝒱₀ (c : Thread nD τ) none) Set.univ (k PUnit.unit) Q)
          -∗ wp frame (wpE (defs₀ (F := F)) 𝒱₀ (c : Thread nD τ) none) Set.univ
            (.op (.load oM (Rect.unit (s := S4096x1024) ![a, b] S256x512.size hin).toLoadRect h) fun _ =>
              .op (.store oM (Rect.unit (s := S4096x1024) ![a, b] S256x512.size hin) w Finset.univ hx hm) k) Q) := by
  iintro ⟨%he, Ho⟩ Hk
  obtain ⟨rfl, rfl, rfl⟩ := he
  subst hp
  unfold oPts
  icases Ho with ⟨%f, %hf, Ho⟩
  iapply (wp_load 𝒱₀ (c : Thread nD τ) none Set.univ (m := oM) (Finset.subset_univ _)) $$ Ho; iintro Ho
  iapply (wp_store 𝒱₀ (c : Thread nD τ) none Set.univ (m := oM) (r := blkR n g) (Mk := Finset.univ) (Finset.subset_univ _)) $$ Ho; iintro Ho
  iapply Hk
  iexists _
  isplitr
  swap
  · iexact Ho
  · ipureintro; exact out_stored m c n g f hf

/-- The rounded copy, whole, and the result's buffer with its first `p` blocks written. -/
def bo (c : Dev nD) (p : ℕ) : sProp 𝕄 := iprop(bPts m c Finset.univ ∗ oPts m c p)

/-- Reading the `n`-th block of half `g`, the result's buffer kept. -/
theorem step_get' (c : Dev nD) (n : Fin 16) (g : Fin 2) (p : ℕ) {a b : ℕ}
    {hin : ∀ i, (![a, b] : Fin 2 → ℕ) i + S256x512.size i ≤ S4096x1024.size i}
    {h : bM.view.LoadsAt (Rect.unit (s := S4096x1024) ![a, b] S256x512.size hin).toLoadRect}
    {k : Vec F S256x512 .bf16 → Prog (TpuEff nD τ sig (Elt F) Λ₀ .tc) α} {Q : α → sProp 𝕄} :
    iprop(⌜a = 256 * n.val ∧ b = 512 * g.val⌝ ∗ bo m c p)
      ⊢ iprop((bo m c p -∗ wp frame (wpE (defs₀ (F := F)) 𝒱₀ (c : Thread nD τ) none) Set.univ (k (xblk m c g n)) Q)
          -∗ wp frame (wpE (defs₀ (F := F)) 𝒱₀ (c : Thread nD τ) none) Set.univ
            (.op (.load bM (Rect.unit (s := S4096x1024) ![a, b] S256x512.size hin).toLoadRect h) k) Q) := by
  unfold bo
  iintro ⟨%he, Hb, Ho⟩ Hk
  iapply (step_get m c n g) $$ [Hb]
  · isplitr; · ipureintro; exact he
    iexact Hb
  iintro Hb
  iapply Hk
  isplitl [Hb]; · iexact Hb
  iexact Ho

/-- Storing the `n`-th block of half `g`, the rounded copy kept. -/
theorem step_put' (c : Dev nD) (n : Fin 16) (g : Fin 2) (p : ℕ) (hp : p = 16 * g.val + n.val) {a b : ℕ}
    {hin : ∀ i, (![a, b] : Fin 2 → ℕ) i + S256x512.size i ≤ S4096x1024.size i}
    {w : Vec F S256x512 .f32}
    {h : oM.view.LoadsAt (Rect.unit (s := S4096x1024) ![a, b] S256x512.size hin).toLoadRect}
    {hx : (oM.access (Rect.unit (s := S4096x1024) ![a, b] S256x512.size hin)).Stores Finset.univ}
    {hm : (Finset.univ : Finset (Rect.unit (s := S4096x1024) ![a, b] S256x512.size hin).shape.Idx) = Finset.univ
      ∨ ∀ i, (Rect.unit (s := S4096x1024) ![a, b] S256x512.size hin).stride i = 1}
    {k : PUnit → Prog (TpuEff nD τ sig (Elt F) Λ₀ .tc) α} {Q : α → sProp 𝕄} :
    iprop(⌜a = 256 * n.val ∧ b = 512 * g.val ∧ w = outBlk m c g n⌝ ∗ bo m c p)
      ⊢ iprop((bo m c (p + 1) -∗ wp frame (wpE (defs₀ (F := F)) 𝒱₀ (c : Thread nD τ) none) Set.univ (k PUnit.unit) Q)
          -∗ wp frame (wpE (defs₀ (F := F)) 𝒱₀ (c : Thread nD τ) none) Set.univ
            (.op (.load oM (Rect.unit (s := S4096x1024) ![a, b] S256x512.size hin).toLoadRect h) fun _ =>
              .op (.store oM (Rect.unit (s := S4096x1024) ![a, b] S256x512.size hin) w Finset.univ hx hm) k) Q) := by
  unfold bo
  iintro ⟨%he, Hb, Ho⟩ Hk
  iapply (step_put m c n g p hp) $$ [Ho]
  · isplitr; · ipureintro; exact he
    iexact Ho
  iintro Ho
  iapply Hk
  isplitl [Hb]; · iexact Hb
  iexact Ho

/-- A whole block's turn: read, computed and stored. -/
theorem step_block (c : Dev nD) (n : Fin 16) (g : Fin 2) (p : ℕ) (hp : p = 16 * g.val + n.val) {a b : ℕ}
    {hin : ∀ i, (![a, b] : Fin 2 → ℕ) i + S256x512.size i ≤ S4096x1024.size i}
    {w : Vec F S256x512 .bf16 → Vec F S256x512 .f32}
    {h1 : bM.view.LoadsAt (Rect.unit (s := S4096x1024) ![a, b] S256x512.size hin).toLoadRect}
    {h : oM.view.LoadsAt (Rect.unit (s := S4096x1024) ![a, b] S256x512.size hin).toLoadRect}
    {hx : (oM.access (Rect.unit (s := S4096x1024) ![a, b] S256x512.size hin)).Stores Finset.univ}
    {hm : (Finset.univ : Finset (Rect.unit (s := S4096x1024) ![a, b] S256x512.size hin).shape.Idx) = Finset.univ
      ∨ ∀ i, (Rect.unit (s := S4096x1024) ![a, b] S256x512.size hin).stride i = 1}
    {k : Vec F S256x512 .bf16 → Prog (TpuEff nD τ sig (Elt F) Λ₀ .tc) α} {Q : α → sProp 𝕄} :
    iprop(⌜a = 256 * n.val ∧ b = 512 * g.val ∧ w (xblk m c g n) = outBlk m c g n⌝ ∗ bo m c p)
      ⊢ iprop((bo m c (p + 1) -∗ wp frame (wpE (defs₀ (F := F)) 𝒱₀ (c : Thread nD τ) none) Set.univ (k (xblk m c g n)) Q)
          -∗ wp frame (wpE (defs₀ (F := F)) 𝒱₀ (c : Thread nD τ) none) Set.univ
            (.op (.load bM (Rect.unit (s := S4096x1024) ![a, b] S256x512.size hin).toLoadRect h1) fun v =>
              .op (.load oM (Rect.unit (s := S4096x1024) ![a, b] S256x512.size hin).toLoadRect h) fun _ =>
              .op (.store oM (Rect.unit (s := S4096x1024) ![a, b] S256x512.size hin) (w v) Finset.univ hx hm) fun _ => k v) Q) := by
  iintro ⟨%he, H⟩ Hk
  iapply (step_get' m c n g p) $$ [H]
  · isplitr; · ipureintro; exact ⟨he.1, he.2.1⟩
    iexact H
  iintro H
  iapply (step_put' m c n g p hp) $$ [H]
  · isplitr; · ipureintro; exact he
    iexact H
  iintro H
  iapply Hk
  iexact H

/-! ## The rows of totals -/

/-- The device's own totals of half `g`, stored in row 0. -/
theorem step_tot (c : Dev nD) (g : Fin 2) {b : ℕ}
    {hin : ∀ i, (![0, 0, b] : Fin 3 → ℕ) i + S1x1x512.size i ≤ S4x1x1024.size i}
    {w : Vec F S1x1x512 .f32}
    {h : tM.view.LoadsAt (Rect.unit (s := S4x1x1024) ![0, 0, b] S1x1x512.size hin).toLoadRect}
    {hx : (tM.access (Rect.unit (s := S4x1x1024) ![0, 0, b] S1x1x512.size hin)).Stores Finset.univ}
    {hm : (Finset.univ : Finset (Rect.unit (s := S4x1x1024) ![0, 0, b] S1x1x512.size hin).shape.Idx) = Finset.univ
      ∨ ∀ i, (Rect.unit (s := S4x1x1024) ![0, 0, b] S1x1x512.size hin).stride i = 1}
    {k : PUnit → Prog (TpuEff nD τ sig (Elt F) Λ₀ .tc) α} {Q : α → sProp 𝕄} :
    iprop(⌜b = 512 * g.val ∧ w = tot m c g⌝ ∗ rowAny c 0 g)
      ⊢ iprop((rowPts c 0 g fullShare (commOf m c) -∗ wp frame (wpE (defs₀ (F := F)) 𝒱₀ (c : Thread nD τ) none) Set.univ (k PUnit.unit) Q)
          -∗ wp frame (wpE (defs₀ (F := F)) 𝒱₀ (c : Thread nD τ) none) Set.univ
            (.op (.load tM (Rect.unit (s := S4x1x1024) ![0, 0, b] S1x1x512.size hin).toLoadRect h) fun _ =>
              .op (.store tM (Rect.unit (s := S4x1x1024) ![0, 0, b] S1x1x512.size hin) w Finset.univ hx hm) k) Q) := by
  iintro ⟨%he, Ho⟩ Hk
  obtain ⟨rfl, rfl⟩ := he
  have hset : (tM.access (rowR 0 g)).set ⊆ rowSet 0 g := (tM_row_set 0 g).subset
  unfold rowAny rowPts
  icases Ho with ⟨%f, Ho⟩
  iapply (wp_load_rect 𝒱₀ (c : Thread nD τ) none Set.univ (m := tM) (r := rowR 0 g) hset) $$ Ho; iintro Ho
  iapply (wp_store 𝒱₀ (c : Thread nD τ) none Set.univ (m := tM) (r := rowR 0 g) (Mk := Finset.univ) (by rw [View.setOn_univ]; exact hset)) $$ Ho; iintro Ho
  iapply Hk
  iapply (Entails.of_eq (pointsTo_congr (stored m c g f))) $$ Ho

/-- Half `g` of the four rows read, under quarter 0. -/
def colPts (c : Dev nD) (g : Fin 2) : sProp 𝕄 := ((c : Thread nD τ).loc cc0_scratch1) ↦[colSet g]{quarter 0} (commOf m c)

theorem step_cols (c : Dev nD) (g : Fin 2) {b : ℕ}
    {hin : ∀ i, (![0, 0, b] : Fin 3 → ℕ) i + S4x1x512.size i ≤ S4x1x1024.size i}
    {h : tM.view.LoadsAt (Rect.unit (s := S4x1x1024) ![0, 0, b] S4x1x512.size hin).toLoadRect}
    {k : Vec F S4x1x512 .f32 → Prog (TpuEff nD τ sig (Elt F) Λ₀ .tc) α} {Q : α → sProp 𝕄} :
    iprop(⌜b = 512 * g.val⌝ ∗ colPts m c g)
      ⊢ iprop((colPts m c g -∗ wp frame (wpE (defs₀ (F := F)) 𝒱₀ (c : Thread nD τ) none) Set.univ (k (tots m c g)) Q)
          -∗ wp frame (wpE (defs₀ (F := F)) 𝒱₀ (c : Thread nD τ) none) Set.univ
            (.op (.load tM (Rect.unit (s := S4x1x1024) ![0, 0, b] S4x1x512.size hin).toLoadRect h) k) Q) := by
  iintro ⟨%he, Ho⟩ Hk
  subst he
  have hset : (tM.access (colR g)).set ⊆ colSet g := (tM_col_set g).subset
  unfold colPts
  iapply (wp_load_rect 𝒱₀ (c : Thread nD τ) none Set.univ (m := tM) (r := colR g) hset) $$ Ho; iintro Ho
  iapply Hk
  iexact Ho

/-! ## Splitting the rows -/

omit [FloatOps F] in
/-- A row's share in quarters. -/
theorem row_quarters (c : Dev nD) (j : Fin 4) (g : Fin 2) (f : Buf (Elt F) ((c : Thread nD τ).loc cc0_scratch1)) :
    (rowPts c j g fullShare f : sProp 𝕄)
      ⊣⊢ iprop((rowPts c j g (quarter 0) f ∗ rowPts c j g (quarter 1) f) ∗ rowPts c j g (quarter 2) f ∗ rowPts c j g (quarter 3) f) := by
  unfold rowPts
  have hq : ∀ q : PosShare TreeShare, (((c : Thread nD τ).loc cc0_scratch1) ↦[rowSet j g]{q} f : sProp 𝕄)
      ⊣⊢ iprop((((c : Thread nD τ).loc cc0_scratch1) ↦[rowSet j g]{q.left} f) ∗ (((c : Thread nD τ).loc cc0_scratch1) ↦[rowSet j g]{q.right} f)) :=
    fun q => pointsTo_share (PosShare.mem_left_op_right q)
  exact (hq fullShare).trans (sep_congr (hq fullShare.left) (hq fullShare.right))

theorem colSet_eq (g : Fin 2) : colSet g = Finset.univ.biUnion fun j : Fin 4 => rowSet j g := by
  ext i
  have h0 : (i 0).val < 4 := (i 0).isLt
  unfold colSet rowSet
  simp only [Finset.mem_biUnion, Finset.mem_filter, Finset.mem_univ, true_and]
  exact ⟨fun h => ⟨⟨(i 0).val, h0⟩, rfl, h⟩, fun ⟨_, _, h⟩ => h⟩

theorem rows_disj (g : Fin 2) (j j' : Fin 4) (h : j ≠ j') : Disjoint (rowSet j g) (rowSet j' g) := by
  rw [Finset.disjoint_left]
  intro i hi hi'
  unfold rowSet at hi hi'
  rw [Finset.mem_filter] at hi hi'
  exact h (Fin.ext (hi.2.1.symm.trans hi'.2.1))

theorem cols_univ : (Finset.univ : Finset S4x1x1024.Idx) = colSet 0 ∪ colSet 1 := by
  ext i
  have h2 : (i 2).val < 1024 := (i 2).isLt
  unfold colSet
  simp only [Finset.mem_union, Finset.mem_filter, Finset.mem_univ, true_and, true_iff]
  show (i 2).val / 512 = 0 ∨ (i 2).val / 512 = 1
  omega

theorem cols_disj : Disjoint (colSet 0) (colSet 1) := by
  rw [Finset.disjoint_left]
  intro i hi hi'
  unfold colSet at hi hi'
  rw [Finset.mem_filter] at hi hi'
  have h : (0 : ℕ) = 1 := hi.2.symm.trans hi'.2
  exact absurd h (by decide)

omit [FloatOps F] in
/-- Half `g` of the four rows is its four rows, at any share. -/
theorem cols_rows (c : Dev nD) (g : Fin 2) (q : PosShare TreeShare) (f : Buf (Elt F) ((c : Thread nD τ).loc cc0_scratch1)) :
    (((c : Thread nD τ).loc cc0_scratch1) ↦[colSet g]{q} f : sProp 𝕄)
      = iprop(rowPts c 0 g q f ∗ rowPts c 1 g q f ∗ rowPts c 2 g q f ∗ rowPts c 3 g q f) := by
  rw [colSet_eq, pointsTo_biUnion _ _ (fun j _ j' _ h => rows_disj g j j' h)]
  rw [bigSep_univ_eq_bigSepL [0, 1, 2, 3] (by decide) (by decide)]
  unfold rowPts
  simp only [bigSepL_cons_cons, bigSepL_singleton]
  rfl

omit [FloatOps F] in
/-- The whole buffer of totals is its eight pieces. -/
theorem whole_rows (c : Dev nD) (f : Buf (Elt F) ((c : Thread nD τ).loc cc0_scratch1)) :
    (((c : Thread nD τ).loc cc0_scratch1) ↦{fullShare} f : sProp 𝕄)
      ⊣⊢ iprop((rowPts c 0 0 fullShare f ∗ rowPts c 1 0 fullShare f ∗ rowPts c 2 0 fullShare f ∗ rowPts c 3 0 fullShare f)
        ∗ rowPts c 0 1 fullShare f ∗ rowPts c 1 1 fullShare f ∗ rowPts c 2 1 fullShare f ∗ rowPts c 3 1 fullShare f) := by
  rw [← cols_rows, ← cols_rows]
  have h := pointsTo_union (ℓ := (c : Thread nD τ).loc cc0_scratch1) (q := fullShare) (f := f)
    (Ix := Unit) (Name := ℕ) (U := UU) (Lvl := ℕ) cols_disj
  rw [← cols_univ] at h
  exact h

end Cert.PrefixProof

end
-- ==== Proof.PartsA.lean ====
/-
The parts of the kernel's body that talk to the other devices: the entry handshake, the transfers and their waits.
-/
module

public import proofs.«01_k».proof.Proof.Blocks

@[expose] public section

noncomputable section

namespace Cert.PrefixProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 15 → ℕ)

/-! ## Waits of transfers -/

/-- Cell `i` of device `c` at round 0, nothing taken. -/
abbrev at0 (c : Dev nD) (i : Fin 15) : sProp 𝕄 := atPos ER (kcell (c, i)) 0 ∅ 0
/-- Cell `i` of device `c` past its round. -/
abbrev at1 (c : Dev nD) (i : Fin 15) : sProp 𝕄 := atPos ER (kcell (c, i)) (0 + 1) ∅ 0
/-- The credit of a transfer on cell `i` of device `c`. -/
abbrev crN (c : Dev nD) (i : Fin 15) : sProp 𝕄 := cred (tallyAt (kcell (c, i)) () N)
/-- The token of a transfer on cell `i` of device `c`. -/
abbrev tokN (c : Dev nD) (i : Fin 15) : sProp 𝕄 := dutyTok ER (kcell (c, i)) 0 0

/-- The wait for row `j`, half `g`. -/
theorem step_recv (c : Dev nD) (j : Fin 4) (g : Fin 2) (hj : j ≠ 0) {α : Type} {src dst : Memref sig .tc .vmem S1x512 .f32} {sm : DmaSem sig}
    {hsrc : src.view.WordExact} {hdst : dst.view.WordExact}
    {k : PUnit → Prog (TpuEff nD τ sig (Elt F) Λ₀ .tc) α} {Q : α → sProp 𝕄} :
    iprop(⌜sm = qR j g ∧ dst.view.dmaCredit = N⌝ ∗ records m K ∗ owesE c 0 ∗ crN c (rI j g) ∗ at0 c (rI j g))
      ⊢ iprop(((owesE c 0 ∗ at1 c (rI j g) ∗ rowPts c j g fullShare (commOf m c))
            -∗ wp frame (wpE (defs₀ (F := F)) 𝒱₀ (c : Thread nD τ) none) Set.univ (k PUnit.unit) Q)
          -∗ wp frame (wpE (defs₀ (F := F)) 𝒱₀ (c : Thread nD τ) none) Set.univ (.op (.waitDma2 sm src dst hsrc hdst) k) Q) := by
  rw [← pay_qR m c j g hj]
  exact step_wait m K c (rI j g) (qR j g) (csem_rI j g) (duties_qR j g hj)

/-- The wait for the transfer of distance `k` of half `g` to have been read out. -/
theorem step_sent (c : Dev nD) (d : Fin 4) (g : Fin 2) (hd : d ≠ 0) {α : Type} {src dst : Memref sig .tc .vmem S1x512 .f32} {sm : DmaSem sig}
    {hsrc : src.view.WordExact} {hdst : dst.view.WordExact}
    {k : PUnit → Prog (TpuEff nD τ sig (Elt F) Λ₀ .tc) α} {Q : α → sProp 𝕄} :
    iprop(⌜sm = qS d g ∧ dst.view.dmaCredit = N⌝ ∗ records m K ∗ owesE c 0 ∗ crN c (sI d g) ∗ at0 c (sI d g))
      ⊢ iprop(((owesE c 0 ∗ at1 c (sI d g) ∗ rowPts c 0 g (quarter d) (commOf m c))
            -∗ wp frame (wpE (defs₀ (F := F)) 𝒱₀ (c : Thread nD τ) none) Set.univ (k PUnit.unit) Q)
          -∗ wp frame (wpE (defs₀ (F := F)) 𝒱₀ (c : Thread nD τ) none) Set.univ (.op (.waitDma2 sm src dst hsrc hdst) k) Q) := by
  rw [← pay_qS m c d g hd]
  exact step_wait m K c (sI d g) (qS d g) (csem_sI d g hd) (duties_qS d g hd)

/-! ## The devices named -/

theorem dev1_eq (c : Dev nD) : (⟨k0_dev1 c, k0_dev1_lt c⟩ : Dev nD) = sh c 1 := Fin.ext (k0_dev1_eq c)
theorem dev2_eq (c : Dev nD) : (⟨k0_dev2 c, k0_dev2_lt c⟩ : Dev nD) = sh c 2 := Fin.ext (k0_dev2_eq c)
theorem dev3_eq (c : Dev nD) : (⟨k0_dev3 c, k0_dev3_lt c⟩ : Dev nD) = sh c 3 := Fin.ext (k0_dev3_eq c)
theorem dev4_eq (c : Dev nD) : (⟨k0_dev4 c, k0_dev4_lt c⟩ : Dev nD) = sh c 1 := Fin.ext (k0_dev4_eq c)
theorem dev5_eq (c : Dev nD) : (⟨k0_dev5 c, k0_dev5_lt c⟩ : Dev nD) = sh c 2 := Fin.ext (k0_dev5_eq c)
theorem dev6_eq (c : Dev nD) : (⟨k0_dev6 c, k0_dev6_lt c⟩ : Dev nD) = sh c 3 := Fin.ext (k0_dev6_eq c)
theorem dev7_eq (c : Dev nD) : (⟨k0_dev7 c, k0_dev7_lt c⟩ : Dev nD) = sh c 1 := Fin.ext (k0_dev7_eq c)
theorem dev8_eq (c : Dev nD) : (⟨k0_dev8 c, k0_dev8_lt c⟩ : Dev nD) = sh c 2 := Fin.ext (k0_dev8_eq c)
theorem dev9_eq (c : Dev nD) : (⟨k0_dev9 c, k0_dev9_lt c⟩ : Dev nD) = sh c 3 := Fin.ext (k0_dev9_eq c)

omit [FloatOps F] in
/-- What the signal of distance `d` handed over: row `d` of the device it came from, both halves. -/
theorem bar_rows (c : Dev nD) (d k : Fin 4) (hk : k = neg d) :
    (barPay c d : sProp 𝕄) = iprop(rowAny (sh c k) d 0 ∗ rowAny (sh c k) d 1) := by subst hk; rfl

variable (c : Dev nD) (h0 : xM.IsWhole) (h1 : oM.IsWhole) (h2 : bM.IsWhole) (h3 : tM.IsWhole)

set_option maxHeartbeats 1000000 in
/-- The handshake with the three other devices, then half 0 rounded. -/
theorem part1_run (Q : (Σ' (d0 : Dev nD) (v2 : BitVec 32) (v16 : FVec F S8x4096 .bf16), FVec F S1x512 .f32) → sProp 𝕄) :
    iprop((records m K ∗ levAts L lv ∗ owesE c (owe c dues)
        ∗ (dutyTok ER (kcell (sh c 1, 0)) 0 1 ∗ rowAny c 1 0 ∗ rowAny c 1 1)
        ∗ (dutyTok ER (kcell (sh c 2, 0)) 0 2 ∗ rowAny c 2 0 ∗ rowAny c 2 1)
        ∗ (dutyTok ER (kcell (sh c 3, 0)) 0 3 ∗ rowAny c 3 0 ∗ rowAny c 3 1)
        ∗ cred (tallyAt (kcell (c, 0)) () 3) ∗ at0 c 0 ∗ xPts m c ∗ bPts m c ∅)
      ∗ ((owesE c (owe c [3, 4, 5, 6, 7, 8]) ∗ at1 c 0
          ∗ (rowAny (sh c 3) 1 0 ∗ rowAny (sh c 3) 1 1) ∗ (rowAny (sh c 2) 2 0 ∗ rowAny (sh c 2) 2 1) ∗ (rowAny (sh c 1) 3 0 ∗ rowAny (sh c 1) 3 1)
          ∗ xPts m c ∗ bPts m c (∅ ∪ halfSet 0)) -∗ Q ⟨c, devW c, k0_pay1 (F := F), k0_pay3 (xhalf m c 0)⟩))
      ⊢ wp frame (wpE (defs₀ (F := F)) 𝒱₀ (c : Thread nD τ) none) Set.univ
          (k0_part1 xM h0 oM h1 bM h2 tM h3 cc0_scratch2 cc0_scratch3) Q := by
  rw [k0_part1_eq_skeleton]; unfold k0_part1_skel
  simp only [semSignalWord, semWaitWord, Prog.lift, Prog.bind_op, Prog.bind_ret, Prog.pure_eq_ret, Prog.bind_assoc, wp_deviceId]
  iintro ⟨⟨#HK, #Hlev, HO, ⟨Ht1, Hr10, Hr11⟩, ⟨Ht2, Hr20, Hr21⟩, ⟨Ht3, Hr30, Hr31⟩, Hc, Ha, Hx, Hb⟩, Hk⟩
  iapply (step_signal m K c 1 (by decide) 0 [1, 2, 3, 4, 5, 6, 7, 8] rfl) $$ [HO Ht1 Hr10 Hr11]
  · isplitr; · ipureintro; exact dev1_eq c
    isplitr; · iexact HK
    isplitl [HO]; · iexact HO
    isplitl [Ht1]; · iexact Ht1
    isplitl [Hr10]; · iexact Hr10
    iexact Hr11
  iintro HO
  iapply (step_signal m K c 2 (by decide) 1 [2, 3, 4, 5, 6, 7, 8] rfl) $$ [HO Ht2 Hr20 Hr21]
  · isplitr; · ipureintro; exact dev2_eq c
    isplitr; · iexact HK
    isplitl [HO]; · iexact HO
    isplitl [Ht2]; · iexact Ht2
    isplitl [Hr20]; · iexact Hr20
    iexact Hr21
  iintro HO
  iapply (step_signal m K c 3 (by decide) 2 [3, 4, 5, 6, 7, 8] rfl) $$ [HO Ht3 Hr30 Hr31]
  · isplitr; · ipureintro; exact dev3_eq c
    isplitr; · iexact HK
    isplitl [HO]; · iexact HO
    isplitl [Ht3]; · iexact Ht3
    isplitl [Hr30]; · iexact Hr30
    iexact Hr31
  iintro HO
  iapply (step_barrier m K c) $$ [HO Hc Ha]
  · isplitr; · iexact HK
    isplitr; · iexact Hlev
    isplitl [HO]; · iexact HO
    isplitl [Hc]; · iexact Hc
    iexact Ha
  iintro ⟨HO, Ha, Hp1, Hp2, Hp3⟩
  iapply (step_round m c 0 ∅) $$ [Hx Hb]
  · isplitr; · ipureintro; exact ⟨rfl, pay2_half m c 0⟩
    isplitl [Hx]; · iexact Hx
    iexact Hb
  iintro ⟨Hx, Hb⟩
  rw [wp_ret]; imodintro
  iapply (ret_eq Q ⟨c, devW c, k0_pay1 (F := F), k0_pay3 (xhalf m c 0)⟩)
  isplitr; · ipureintro; rfl
  iapply Hk
  isplitl [HO]; · iexact HO
  isplitl [Ha]; · iexact Ha
  isplitl [Hp1]; · iapply (Entails.of_eq (bar_rows c 1 3 rfl)) $$ Hp1
  isplitl [Hp2]; · iapply (Entails.of_eq (bar_rows c 2 2 rfl)) $$ Hp2
  isplitl [Hp3]; · iapply (Entails.of_eq (bar_rows c 3 1 rfl)) $$ Hp3
  isplitl [Hx]; · iexact Hx
  iexact Hb

/-- What the transfer of distance `d` of half `g` needs besides the row's share: the row it lands in and the two tokens. -/
def sendRes (c : Dev nD) (d j : Fin 4) (g : Fin 2) : sProp 𝕄 :=
  iprop(rowAny (sh c d) j g ∗ tokN c (sI d g) ∗ tokN (sh c d) (rI j g))

/-- The transfer of distance `d` of half `g`, its resources gathered. -/
theorem step_send' (d j : Fin 4) (g : Fin 2) (e : Fin 9) (l : List (Fin 9)) (hj : j = neg d) (hd : d ≠ 0)
    (ht : tgt c e = (sh c d, rI j g)) {α : Type} {n : Dev nD} {src : Memref sig .tc .vmem S1x512 .f32}
    {dst : Memref sig (Dev.tc n : Thread nD τ).2.kind .vmem S1x512 .f32} {sS sR : DmaSem sig}
    {hsc : dst.view.ref.isScScratch = false} {hsrc : src.view.WordExact} {hdst : dst.view.WordExact}
    {hsem : DmaTarget.Typed .vmem (.dma sR) (.remote (Dev.tc n : Thread nD τ) dst (.dma sS) hsc)}
    {kk : PUnit → Prog (TpuEff nD τ sig (Elt F) Λ₀ .tc) α} {Q : α → sProp 𝕄} :
    iprop(⌜n = sh c d ∧ src = rowM 0 g ∧ dst = (rowM j g : Memref sig .tc .vmem S1x512 .f32) ∧ sS = qS d g ∧ sR = qR j g⌝
        ∗ records m K ∗ rowPts c 0 g (quarter d) (commOf m c) ∗ owesE c (owe c (e :: l)) ∗ sendRes c d j g)
      ⊢ iprop(((crN c (sI d g) ∗ owesE c (owe c l)) -∗ wp frame (wpE (defs₀ (F := F)) 𝒱₀ (c : Thread nD τ) none) Set.univ (kk PUnit.unit) Q)
          -∗ wp frame (wpE (defs₀ (F := F)) 𝒱₀ (c : Thread nD τ) none) Set.univ
              (.op (.enqueueDma src (.remote (Dev.tc n : Thread nD τ) dst (.dma sS) hsc) (.dma sR) hsrc hdst hsem) kk) Q) := by
  unfold sendRes
  iintro ⟨He, #HK, H0, HO, Hn, Hts, Htr⟩ Hk
  iapply (step_send m K c d j g e l hj hd ht) $$ [He H0 HO Hn Hts Htr]
  · isplitl [He]; · iexact He
    isplitr; · iexact HK
    isplitl [H0]; · iexact H0
    isplitl [Hn]; · iexact Hn
    isplitl [HO]; · iexact HO
    isplitl [Hts]; · iexact Hts
    iexact Htr
  iintro H
  iapply Hk $$ H

set_option maxHeartbeats 1000000 in
/-- Half 0 of the totals stored, and its first two transfers. -/
theorem part2_run (Q : BitVec 32 → sProp 𝕄) :
    iprop((records m K ∗ rowAny c 0 0 ∗ owesE c (owe c [3, 4, 5, 6, 7, 8]) ∗ sendRes c 1 3 0 ∗ sendRes c 2 2 0)
      ∗ (∀ v, (rowPts c 0 0 (quarter 0) (commOf m c) ∗ rowPts c 0 0 (quarter 3) (commOf m c) ∗ crN c (sI 1 0) ∗ crN c (sI 2 0)
          ∗ owesE c (owe c [5, 6, 7, 8])) -∗ Q v))
      ⊢ wp frame (wpE (defs₀ (F := F)) 𝒱₀ (c : Thread nD τ) none) Set.univ
          (k0_part2 xM h0 oM h1 bM h2 tM h3 cc0_scratch2 cc0_scratch3 c (devW c) (k0_pay3 (xhalf m c 0))) Q := by
  rw [k0_part2_eq_skeleton]; unfold k0_part2_skel
  simp only [Prog.lift, Prog.bind_op, Prog.bind_ret, Prog.pure_eq_ret]
  iintro ⟨⟨#HK, Hr, HO, Hs1, Hs2⟩, Hk⟩
  iapply (step_tot m c 0) $$ [Hr]
  · isplitr; · ipureintro; exact ⟨rfl, rfl⟩
    iexact Hr
  iintro Hr
  ihave Hr := (row_quarters c 0 0 (commOf m c)).1 $$ Hr
  icases Hr with ⟨⟨Hq0, Hq1⟩, Hq2, Hq3⟩
  iapply (step_send' m K c 1 3 0 3 [4, 5, 6, 7, 8] rfl (by decide) rfl) $$ [Hq1 HO Hs1]
  · isplitr; · ipureintro; exact ⟨dev4_eq c, rfl, rfl, rfl, rfl⟩
    isplitr; · iexact HK
    isplitl [Hq1]; · iexact Hq1
    isplitl [HO]; · iexact HO
    iexact Hs1
  iintro ⟨Hc1, HO⟩
  iapply (step_send' m K c 2 2 0 4 [5, 6, 7, 8] rfl (by decide) rfl) $$ [Hq2 HO Hs2]
  · isplitr; · ipureintro; exact ⟨dev5_eq c, rfl, rfl, rfl, rfl⟩
    isplitr; · iexact HK
    isplitl [Hq2]; · iexact Hq2
    isplitl [HO]; · iexact HO
    iexact Hs2
  iintro ⟨Hc2, HO⟩
  rw [wp_ret]; imodintro
  iapply Hk
  isplitl [Hq0]; · iexact Hq0
  isplitl [Hq3]; · iexact Hq3
  isplitl [Hc1]; · iexact Hc1
  isplitl [Hc2]; · iexact Hc2
  iexact HO

set_option maxHeartbeats 1000000 in
/-- The third transfer of half 0; half 1 rounded and its totals stored. -/
theorem part3_run (v54 : BitVec 32) (Q : PUnit → sProp 𝕄) :
    iprop((records m K ∗ rowPts c 0 0 (quarter 3) (commOf m c) ∗ owesE c (owe c [5, 6, 7, 8]) ∗ sendRes c 3 1 0
        ∗ xPts m c ∗ bPts m c (∅ ∪ halfSet 0) ∗ rowAny c 0 1)
      ∗ ((crN c (sI 3 0) ∗ owesE c (owe c [6, 7, 8]) ∗ xPts m c ∗ bPts m c (∅ ∪ halfSet 0 ∪ halfSet 1)
          ∗ rowPts c 0 1 fullShare (commOf m c)) -∗ Q PUnit.unit))
      ⊢ wp frame (wpE (defs₀ (F := F)) 𝒱₀ (c : Thread nD τ) none) Set.univ
          (k0_part3 xM h0 oM h1 bM h2 tM h3 cc0_scratch2 cc0_scratch3 c (devW c) (k0_pay1 (F := F)) v54) Q := by
  rw [k0_part3_eq_skeleton]; unfold k0_part3_skel
  simp only [Prog.lift, Prog.bind_op, Prog.bind_ret, Prog.pure_eq_ret]
  iintro ⟨⟨#HK, Hq3, HO, Hs3, Hx, Hb, Hr⟩, Hk⟩
  iapply (step_send' m K c 3 1 0 5 [6, 7, 8] rfl (by decide) rfl) $$ [Hq3 HO Hs3]
  · isplitr; · ipureintro; exact ⟨dev6_eq c, rfl, rfl, rfl, rfl⟩
    isplitr; · iexact HK
    isplitl [Hq3]; · iexact Hq3
    isplitl [HO]; · iexact HO
    iexact Hs3
  iintro ⟨Hc3, HO⟩
  iapply (step_round m c 1 (∅ ∪ halfSet 0)) $$ [Hx Hb]
  · isplitr; · ipureintro; exact ⟨rfl, pay5_half m c 1⟩
    isplitl [Hx]; · iexact Hx
    iexact Hb
  iintro ⟨Hx, Hb⟩
  iapply (step_tot m c 1) $$ [Hr]
  · isplitr; · ipureintro; exact ⟨rfl, rfl⟩
    iexact Hr
  iintro Hr
  rw [wp_ret]; imodintro
  iapply Hk
  isplitl [Hc3]; · iexact Hc3
  isplitl [HO]; · iexact HO
  isplitl [Hx]; · iexact Hx
  isplitl [Hb]; · iexact Hb
  iexact Hr

set_option maxHeartbeats 1000000 in
/-- The three transfers of half 1. -/
theorem part4_run (Q : PUnit → sProp 𝕄) :
    iprop((records m K ∗ rowPts c 0 1 fullShare (commOf m c) ∗ owesE c (owe c [6, 7, 8]) ∗ sendRes c 1 3 1 ∗ sendRes c 2 2 1 ∗ sendRes c 3 1 1)
      ∗ ((rowPts c 0 1 (quarter 0) (commOf m c) ∗ crN c (sI 1 1) ∗ crN c (sI 2 1) ∗ crN c (sI 3 1) ∗ owesE c 0) -∗ Q PUnit.unit))
      ⊢ wp frame (wpE (defs₀ (F := F)) 𝒱₀ (c : Thread nD τ) none) Set.univ
          (k0_part4 xM h0 oM h1 bM h2 tM h3 cc0_scratch2 cc0_scratch3 c (devW c)) Q := by
  rw [k0_part4_eq_skeleton]; unfold k0_part4_skel
  simp only [Prog.lift, Prog.bind_op, Prog.bind_ret, Prog.pure_eq_ret]
  iintro ⟨⟨#HK, Hr, HO, Hs1, Hs2, Hs3⟩, Hk⟩
  ihave Hr := (row_quarters c 0 1 (commOf m c)).1 $$ Hr
  icases Hr with ⟨⟨Hq0, Hq1⟩, Hq2, Hq3⟩
  iapply (step_send' m K c 1 3 1 6 [7, 8] rfl (by decide) rfl) $$ [Hq1 HO Hs1]
  · isplitr; · ipureintro; exact ⟨dev7_eq c, rfl, rfl, rfl, rfl⟩
    isplitr; · iexact HK
    isplitl [Hq1]; · iexact Hq1
    isplitl [HO]; · iexact HO
    iexact Hs1
  iintro ⟨Hc1, HO⟩
  iapply (step_send' m K c 2 2 1 7 [8] rfl (by decide) rfl) $$ [Hq2 HO Hs2]
  · isplitr; · ipureintro; exact ⟨dev8_eq c, rfl, rfl, rfl, rfl⟩
    isplitr; · iexact HK
    isplitl [Hq2]; · iexact Hq2
    isplitl [HO]; · iexact HO
    iexact Hs2
  iintro ⟨Hc2, HO⟩
  iapply (step_send' m K c 3 1 1 8 [] rfl (by decide) rfl) $$ [Hq3 HO Hs3]
  · isplitr; · ipureintro; exact ⟨dev9_eq c, rfl, rfl, rfl, rfl⟩
    isplitr; · iexact HK
    isplitl [Hq3]; · iexact Hq3
    isplitl [HO]; · iexact HO
    iexact Hs3
  iintro ⟨Hc3, HO⟩
  rw [wp_ret]; imodintro
  iapply Hk
  isplitl [Hq0]; · iexact Hq0
  isplitl [Hc1]; · iexact Hc1
  isplitl [Hc2]; · iexact Hc2
  isplitl [Hc3]; · iexact Hc3
  iexact HO

/-! ## The waits of the receives, and the totals read -/

/-- What a receive's wait needs. -/
def recvRes (c : Dev nD) (j : Fin 4) (g : Fin 2) : sProp 𝕄 := iprop(crN c (rI j g) ∗ at0 c (rI j g))
/-- What it gives. -/
def recvd (c : Dev nD) (j : Fin 4) (g : Fin 2) : sProp 𝕄 := iprop(at1 c (rI j g) ∗ rowPts c j g fullShare (commOf m c))
/-- What a send's wait needs. -/
def sentRes (c : Dev nD) (d : Fin 4) (g : Fin 2) : sProp 𝕄 := iprop(crN c (sI d g) ∗ at0 c (sI d g))
/-- What it gives. -/
def sent (c : Dev nD) (d : Fin 4) (g : Fin 2) : sProp 𝕄 := iprop(at1 c (sI d g) ∗ rowPts c 0 g (quarter d) (commOf m c))

theorem step_recv' (j : Fin 4) (g : Fin 2) (hj : j ≠ 0) {α : Type} {src dst : Memref sig .tc .vmem S1x512 .f32} {sm : DmaSem sig}
    {hsrc : src.view.WordExact} {hdst : dst.view.WordExact}
    {k : PUnit → Prog (TpuEff nD τ sig (Elt F) Λ₀ .tc) α} {Q : α → sProp 𝕄} :
    iprop(⌜sm = qR j g ∧ dst.view.dmaCredit = N⌝ ∗ records m K ∗ owesE c 0 ∗ recvRes c j g)
      ⊢ iprop(((owesE c 0 ∗ recvd m c j g)
            -∗ wp frame (wpE (defs₀ (F := F)) 𝒱₀ (c : Thread nD τ) none) Set.univ (k PUnit.unit) Q)
          -∗ wp frame (wpE (defs₀ (F := F)) 𝒱₀ (c : Thread nD τ) none) Set.univ (.op (.waitDma2 sm src dst hsrc hdst) k) Q) :=
  step_recv m K c j g hj

theorem step_sent' (d : Fin 4) (g : Fin 2) (hd : d ≠ 0) {α : Type} {src dst : Memref sig .tc .vmem S1x512 .f32} {sm : DmaSem sig}
    {hsrc : src.view.WordExact} {hdst : dst.view.WordExact}
    {k : PUnit → Prog (TpuEff nD τ sig (Elt F) Λ₀ .tc) α} {Q : α → sProp 𝕄} :
    iprop(⌜sm = qS d g ∧ dst.view.dmaCredit = N⌝ ∗ records m K ∗ owesE c 0 ∗ sentRes c d g)
      ⊢ iprop(((owesE c 0 ∗ sent m c d g)
            -∗ wp frame (wpE (defs₀ (F := F)) 𝒱₀ (c : Thread nD τ) none) Set.univ (k PUnit.unit) Q)
          -∗ wp frame (wpE (defs₀ (F := F)) 𝒱₀ (c : Thread nD τ) none) Set.univ (.op (.waitDma2 sm src dst hsrc hdst) k) Q) :=
  step_sent m K c d g hd

/-- The rows of half `g`, the three received and the kept quarter of the device's own, read together and put back. -/
theorem rows_cols (g : Fin 2) :
    iprop(rowPts c 0 g (quarter 0) (commOf m c) ∗ rowPts c 1 g fullShare (commOf m c) ∗ rowPts c 2 g fullShare (commOf m c)
        ∗ rowPts c 3 g fullShare (commOf m c))
      ⊢ (iprop(colPts m c g ∗ (colPts m c g -∗ (rowPts c 0 g (quarter 0) (commOf m c) ∗ rowPts c 1 g fullShare (commOf m c)
        ∗ rowPts c 2 g fullShare (commOf m c) ∗ rowPts c 3 g fullShare (commOf m c)))) : sProp 𝕄) := by
  unfold colPts
  rw [cols_rows]
  iintro ⟨H0, H1, H2, H3⟩
  ihave H1 := (row_quarters c 1 g (commOf m c)).1 $$ H1
  ihave H2 := (row_quarters c 2 g (commOf m c)).1 $$ H2
  ihave H3 := (row_quarters c 3 g (commOf m c)).1 $$ H3
  icases H1 with ⟨⟨H1, A1⟩, B1⟩
  icases H2 with ⟨⟨H2, A2⟩, B2⟩
  icases H3 with ⟨⟨H3, A3⟩, B3⟩
  isplitl [H0 H1 H2 H3]
  · isplitl [H0]; · iexact H0
    isplitl [H1]; · iexact H1
    isplitl [H2]; · iexact H2
    iexact H3
  iintro ⟨H0, H1, H2, H3⟩
  isplitl [H0]; · iexact H0
  isplitl [H1 A1 B1]
  · iapply (row_quarters c 1 g (commOf m c)).2
    isplitl [H1 A1]
    · isplitl [H1]; · iexact H1
      iexact A1
    iexact B1
  isplitl [H2 A2 B2]
  · iapply (row_quarters c 2 g (commOf m c)).2
    isplitl [H2 A2]
    · isplitl [H2]; · iexact H2
      iexact A2
    iexact B2
  · iapply (row_quarters c 3 g (commOf m c)).2
    isplitl [H3 A3]
    · isplitl [H3]; · iexact H3
      iexact A3
    iexact B3

/-- The waits for rows 1 and 2 of half 0. -/
theorem part5_run (Q : FVec F S256x256 .bf16 → sProp 𝕄) :
    iprop((records m K ∗ owesE c 0 ∗ recvRes c 1 0 ∗ recvRes c 2 0) ∗ ((owesE c 0 ∗ recvd m c 1 0 ∗ recvd m c 2 0) -∗ Q (k0_pay7 (F := F))))
      ⊢ wp frame (wpE (defs₀ (F := F)) 𝒱₀ (c : Thread nD τ) none) Set.univ
          (k0_part5 xM h0 oM h1 bM h2 tM h3 cc0_scratch2 cc0_scratch3 (devW c)) Q := by
  rw [k0_part5_eq_skeleton]; unfold k0_part5_skel
  simp only [Prog.lift, Prog.bind_op, Prog.bind_ret, Prog.pure_eq_ret]
  iintro ⟨⟨#HK, HO, Hs1, Hs2⟩, Hk⟩
  iapply (step_recv' m K c 1 0 (by decide)) $$ [HO Hs1]
  · isplitr; · ipureintro; exact ⟨rfl, rfl⟩
    isplitr; · iexact HK
    isplitl [HO]; · iexact HO
    iexact Hs1
  iintro ⟨HO, Hs1⟩
  iapply (step_recv' m K c 2 0 (by decide)) $$ [HO Hs2]
  · isplitr; · ipureintro; exact ⟨rfl, rfl⟩
    isplitr; · iexact HK
    isplitl [HO]; · iexact HO
    iexact Hs2
  iintro ⟨HO, Hs2⟩
  rw [wp_ret]; imodintro
  iapply Hk
  isplitl [HO]; · iexact HO
  isplitl [Hs1]; · iexact Hs1
  iexact Hs2

set_option maxHeartbeats 1000000 in
/-- The wait for row 3 of half 0, the four rows read, and the first three blocks of half 0. -/
theorem part6_run (Q : (Σ' (v169 : FVec F S1x512 .f32), FVec F S1x512 .f32) → sProp 𝕄) :
    iprop((records m K ∗ owesE c 0 ∗ recvRes c 3 0 ∗ recvd m c 1 0 ∗ recvd m c 2 0 ∗ rowPts c 0 0 (quarter 0) (commOf m c) ∗ bo m c 0)
      ∗ ((owesE c 0 ∗ recvd m c 1 0 ∗ recvd m c 2 0 ∗ recvd m c 3 0 ∗ rowPts c 0 0 (quarter 0) (commOf m c) ∗ bo m c 3)
          -∗ Q ⟨carry m c 0 2, last m c 0 2⟩))
      ⊢ wp frame (wpE (defs₀ (F := F)) 𝒱₀ (c : Thread nD τ) none) Set.univ
          (k0_part6 xM h0 oM h1 bM h2 tM h3 cc0_scratch2 cc0_scratch3 (devW c) (k0_pay7 (F := F))) Q := by
  rw [k0_part6_eq_skeleton]; unfold k0_part6_skel
  simp only [Prog.lift, Prog.bind_op, Prog.bind_ret, Prog.pure_eq_ret]
  iintro ⟨⟨#HK, HO, Hs3, Hs1, Hs2, Hq, H⟩, Hk⟩
  iapply (step_recv' m K c 3 0 (by decide)) $$ [HO Hs3]
  · isplitr; · ipureintro; exact ⟨rfl, rfl⟩
    isplitr; · iexact HK
    isplitl [HO]; · iexact HO
    iexact Hs3
  iintro ⟨HO, Hs3⟩
  unfold recvd
  icases Hs1 with ⟨Ha1, Hr1⟩
  icases Hs2 with ⟨Ha2, Hr2⟩
  icases Hs3 with ⟨Ha3, Hr3⟩
  ihave Hc := (rows_cols m c 0) $$ [Hq Hr1 Hr2 Hr3]
  · isplitl [Hq]; · iexact Hq
    isplitl [Hr1]; · iexact Hr1
    isplitl [Hr2]; · iexact Hr2
    iexact Hr3
  icases Hc with ⟨Hc, Hback⟩
  iapply (step_cols m c 0) $$ [Hc]
  · isplitr; · ipureintro; rfl
    iexact Hc
  iintro Hc
  ihave Hc := Hback $$ Hc
  icases Hc with ⟨Hq, Hr1, Hr2, Hr3⟩
  iapply (step_block m c 0 0 0 rfl) $$ [H]
  · isplitr; · ipureintro; exact ⟨rfl, rfl, rfl⟩
    iexact H
  iintro H
  iapply (step_block m c 1 0 1 rfl) $$ [H]
  · isplitr; · ipureintro; exact ⟨rfl, rfl, rfl⟩
    iexact H
  iintro H
  iapply (step_block m c 2 0 2 rfl) $$ [H]
  · isplitr; · ipureintro; exact ⟨rfl, rfl, rfl⟩
    iexact H
  iintro H
  rw [wp_ret]; imodintro
  iapply (ret_eq Q ⟨carry m c 0 2, last m c 0 2⟩)
  isplitr; · ipureintro; rfl
  iapply Hk
  isplitl [HO]; · iexact HO
  isplitl [Ha1 Hr1]; · isplitl [Ha1]; · iexact Ha1
                       iexact Hr1
  isplitl [Ha2 Hr2]; · isplitl [Ha2]; · iexact Ha2
                       iexact Hr2
  isplitl [Ha3 Hr3]; · isplitl [Ha3]; · iexact Ha3
                       iexact Hr3
  isplitl [Hq]; · iexact Hq
  iexact H

set_option maxHeartbeats 1000000 in
/-- The waits for the three rows of half 1, and the four rows read. -/
theorem part10_run (Q : (Σ' (v291 : FVec F S4x512 .f32) (v298 : IVec S4x512 1), FVec F S4x512 .f32) → sProp 𝕄) :
    iprop((records m K ∗ owesE c 0 ∗ recvRes c 1 1 ∗ recvRes c 2 1 ∗ recvRes c 3 1 ∗ rowPts c 0 1 (quarter 0) (commOf m c))
      ∗ ((owesE c 0 ∗ recvd m c 1 1 ∗ recvd m c 2 1 ∗ recvd m c 3 1 ∗ rowPts c 0 1 (quarter 0) (commOf m c))
          -∗ Q ⟨k0_pay55 (tots m c 1), k0_pay56 (devW c), k0_pay57 (F := F)⟩))
      ⊢ wp frame (wpE (defs₀ (F := F)) 𝒱₀ (c : Thread nD τ) none) Set.univ
          (k0_part10 xM h0 oM h1 bM h2 tM h3 cc0_scratch2 cc0_scratch3 (devW c)) Q := by
  rw [k0_part10_eq_skeleton]; unfold k0_part10_skel
  simp only [Prog.lift, Prog.bind_op, Prog.bind_ret, Prog.pure_eq_ret]
  iintro ⟨⟨#HK, HO, Hs1, Hs2, Hs3, Hq⟩, Hk⟩
  iapply (step_recv' m K c 1 1 (by decide)) $$ [HO Hs1]
  · isplitr; · ipureintro; exact ⟨rfl, rfl⟩
    isplitr; · iexact HK
    isplitl [HO]; · iexact HO
    iexact Hs1
  iintro ⟨HO, Hs1⟩
  iapply (step_recv' m K c 2 1 (by decide)) $$ [HO Hs2]
  · isplitr; · ipureintro; exact ⟨rfl, rfl⟩
    isplitr; · iexact HK
    isplitl [HO]; · iexact HO
    iexact Hs2
  iintro ⟨HO, Hs2⟩
  iapply (step_recv' m K c 3 1 (by decide)) $$ [HO Hs3]
  · isplitr; · ipureintro; exact ⟨rfl, rfl⟩
    isplitr; · iexact HK
    isplitl [HO]; · iexact HO
    iexact Hs3
  iintro ⟨HO, Hs3⟩
  unfold recvd
  icases Hs1 with ⟨Ha1, Hr1⟩
  icases Hs2 with ⟨Ha2, Hr2⟩
  icases Hs3 with ⟨Ha3, Hr3⟩
  ihave Hc := (rows_cols m c 1) $$ [Hq Hr1 Hr2 Hr3]
  · isplitl [Hq]; · iexact Hq
    isplitl [Hr1]; · iexact Hr1
    isplitl [Hr2]; · iexact Hr2
    iexact Hr3
  icases Hc with ⟨Hc, Hback⟩
  iapply (step_cols m c 1) $$ [Hc]
  · isplitr; · ipureintro; rfl
    iexact Hc
  iintro Hc
  ihave Hc := Hback $$ Hc
  icases Hc with ⟨Hq, Hr1, Hr2, Hr3⟩
  rw [wp_ret]; imodintro
  iapply Hk
  isplitl [HO]; · iexact HO
  isplitl [Ha1 Hr1]; · isplitl [Ha1]; · iexact Ha1
                       iexact Hr1
  isplitl [Ha2 Hr2]; · isplitl [Ha2]; · iexact Ha2
                       iexact Hr2
  isplitl [Ha3 Hr3]; · isplitl [Ha3]; · iexact Ha3
                       iexact Hr3
  iexact Hq

/-! ## The waits of the sends -/

set_option maxHeartbeats 1000000 in
/-- The last three blocks of half 1, and the wait of the first send. -/
theorem part14_run (Q : PUnit → sProp 𝕄) :
    iprop((records m K ∗ owesE c 0 ∗ sentRes c 1 0 ∗ bo m c 29) ∗ ((owesE c 0 ∗ sent m c 1 0 ∗ bo m c 32) -∗ Q PUnit.unit))
      ⊢ wp frame (wpE (defs₀ (F := F)) 𝒱₀ (c : Thread nD τ) none) Set.univ
          (k0_part14 xM h0 oM h1 bM h2 tM h3 cc0_scratch2 cc0_scratch3 (k0_pay7 (F := F)) (carry m c 1 13) (mm m c 1 13) (outBlk m c 1 13)) Q := by
  rw [k0_part14_eq_skeleton]; unfold k0_part14_skel
  simp only [Prog.lift, Prog.bind_op, Prog.bind_ret, Prog.pure_eq_ret]
  iintro ⟨⟨#HK, HO, Hs, H⟩, Hk⟩
  iapply (step_put' m c 13 1 29 rfl) $$ [H]
  · isplitr; · ipureintro; exact ⟨rfl, rfl, rfl⟩
    iexact H
  iintro H
  iapply (step_block m c 14 1 30 rfl) $$ [H]
  · isplitr; · ipureintro; exact ⟨rfl, rfl, rfl⟩
    iexact H
  iintro H
  iapply (step_block m c 15 1 31 rfl) $$ [H]
  · isplitr; · ipureintro; exact ⟨rfl, rfl, rfl⟩
    iexact H
  iintro H
  iapply (step_sent' m K c 1 0 (by decide)) $$ [HO Hs]
  · isplitr; · ipureintro; exact ⟨rfl, rfl⟩
    isplitr; · iexact HK
    isplitl [HO]; · iexact HO
    iexact Hs
  iintro ⟨HO, Hs⟩
  rw [wp_ret]; imodintro
  iapply Hk
  isplitl [HO]; · iexact HO
  isplitl [Hs]; · iexact Hs
  iexact H

set_option maxHeartbeats 1000000 in
/-- The waits of four more sends. -/
theorem part15_run (Q : PUnit → sProp 𝕄) :
    iprop((records m K ∗ owesE c 0 ∗ sentRes c 2 0 ∗ sentRes c 3 0 ∗ sentRes c 1 1 ∗ sentRes c 2 1)
        ∗ ((owesE c 0 ∗ sent m c 2 0 ∗ sent m c 3 0 ∗ sent m c 1 1 ∗ sent m c 2 1) -∗ Q PUnit.unit))
      ⊢ wp frame (wpE (defs₀ (F := F)) 𝒱₀ (c : Thread nD τ) none) Set.univ
          (k0_part15 xM h0 oM h1 bM h2 tM h3 cc0_scratch2 cc0_scratch3) Q := by
  rw [k0_part15_eq_skeleton]; unfold k0_part15_skel
  simp only [Prog.lift, Prog.bind_op, Prog.bind_ret, Prog.pure_eq_ret]
  iintro ⟨⟨#HK, HO, Hs2, Hs3, Hs4, Hs5⟩, Hk⟩
  iapply (step_sent' m K c 2 0 (by decide)) $$ [HO Hs2]
  · isplitr; · ipureintro; exact ⟨rfl, rfl⟩
    isplitr; · iexact HK
    isplitl [HO]; · iexact HO
    iexact Hs2
  iintro ⟨HO, Hs2⟩
  iapply (step_sent' m K c 3 0 (by decide)) $$ [HO Hs3]
  · isplitr; · ipureintro; exact ⟨rfl, rfl⟩
    isplitr; · iexact HK
    isplitl [HO]; · iexact HO
    iexact Hs3
  iintro ⟨HO, Hs3⟩
  iapply (step_sent' m K c 1 1 (by decide)) $$ [HO Hs4]
  · isplitr; · ipureintro; exact ⟨rfl, rfl⟩
    isplitr; · iexact HK
    isplitl [HO]; · iexact HO
    iexact Hs4
  iintro ⟨HO, Hs4⟩
  iapply (step_sent' m K c 2 1 (by decide)) $$ [HO Hs5]
  · isplitr; · ipureintro; exact ⟨rfl, rfl⟩
    isplitr; · iexact HK
    isplitl [HO]; · iexact HO
    iexact Hs5
  iintro ⟨HO, Hs5⟩
  rw [wp_ret]; imodintro
  iapply Hk
  isplitl [HO]; · iexact HO
  isplitl [Hs2]; · iexact Hs2
  isplitl [Hs3]; · iexact Hs3
  isplitl [Hs4]; · iexact Hs4
  iexact Hs5

end Cert.PrefixProof

end
-- ==== Proof.PartsB.lean ====
/-
The parts of the kernel's body that only compute blocks: each takes the result's buffer from `p` blocks written to more.
-/
module

public import proofs.«01_k».proof.Proof.Blocks

@[expose] public section

noncomputable section

namespace Cert.PrefixProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) {α : Type}

variable (c : Dev nD) (h0 : xM.IsWhole) (h1 : oM.IsWhole) (h2 : bM.IsWhole) (h3 : tM.IsWhole)

set_option maxHeartbeats 1000000 in
/-- Blocks 3 to 6 of half 0, and block 7 read. -/
theorem part7_run (Q : (Σ' (v204 : FVec F S1x512 .f32) (v206 : FVec F S256x512 .f32), FVec F S256x512 .f32) → sProp 𝕄) :
    iprop(bo m c 3 ∗ (bo m c 7 -∗ Q ⟨carry m c 0 7, mm m c 0 7, outBlk m c 0 7⟩))
      ⊢ wp frame (wpE (defs₀ (F := F)) 𝒱₀ (c : Thread nD τ) none) Set.univ
          (k0_part7 xM h0 oM h1 bM h2 tM h3 cc0_scratch2 cc0_scratch3 k0_pay7 (carry m c 0 2) (last m c 0 2)) Q := by
  rw [k0_part7_eq_skeleton]; unfold k0_part7_skel
  simp only [Prog.lift, Prog.bind_op, Prog.bind_ret, Prog.pure_eq_ret]
  iintro ⟨H, Hk⟩
  iapply (step_block m c 3 0 3 rfl) $$ [H]
  · isplitr; · ipureintro; exact ⟨rfl, rfl, rfl⟩
    iexact H
  iintro H
  iapply (step_block m c 4 0 4 rfl) $$ [H]
  · isplitr; · ipureintro; exact ⟨rfl, rfl, rfl⟩
    iexact H
  iintro H
  iapply (step_block m c 5 0 5 rfl) $$ [H]
  · isplitr; · ipureintro; exact ⟨rfl, rfl, rfl⟩
    iexact H
  iintro H
  iapply (step_block m c 6 0 6 rfl) $$ [H]
  · isplitr; · ipureintro; exact ⟨rfl, rfl, rfl⟩
    iexact H
  iintro H
  iapply (step_get' m c 7 0 7) $$ [H]
  · isplitr; · ipureintro; exact ⟨rfl, rfl⟩
    iexact H
  iintro H
  rw [wp_ret]; imodintro
  iapply (ret_eq Q ⟨carry m c 0 7, mm m c 0 7, outBlk m c 0 7⟩)
  isplitr; · ipureintro; rfl
  iapply Hk $$ H

set_option maxHeartbeats 1000000 in
/-- Block 7 of half 0 stored, and blocks 8 to 11. -/
theorem part8_run (Q : FVec F S1x512 .f32 → sProp 𝕄) :
    iprop(bo m c 7 ∗ (bo m c 12 -∗ Q (carry m c 0 12)))
      ⊢ wp frame (wpE (defs₀ (F := F)) 𝒱₀ (c : Thread nD τ) none) Set.univ
          (k0_part8 xM h0 oM h1 bM h2 tM h3 cc0_scratch2 cc0_scratch3 k0_pay7 (carry m c 0 7) (mm m c 0 7) (outBlk m c 0 7)) Q := by
  rw [k0_part8_eq_skeleton]; unfold k0_part8_skel
  simp only [Prog.lift, Prog.bind_op, Prog.bind_ret, Prog.pure_eq_ret]
  iintro ⟨H, Hk⟩
  iapply (step_put' m c 7 0 7 rfl) $$ [H]
  · isplitr; · ipureintro; exact ⟨rfl, rfl, rfl⟩
    iexact H
  iintro H
  iapply (step_block m c 8 0 8 rfl) $$ [H]
  · isplitr; · ipureintro; exact ⟨rfl, rfl, rfl⟩
    iexact H
  iintro H
  iapply (step_block m c 9 0 9 rfl) $$ [H]
  · isplitr; · ipureintro; exact ⟨rfl, rfl, rfl⟩
    iexact H
  iintro H
  iapply (step_block m c 10 0 10 rfl) $$ [H]
  · isplitr; · ipureintro; exact ⟨rfl, rfl, rfl⟩
    iexact H
  iintro H
  iapply (step_block m c 11 0 11 rfl) $$ [H]
  · isplitr; · ipureintro; exact ⟨rfl, rfl, rfl⟩
    iexact H
  iintro H
  rw [wp_ret]; imodintro
  iapply (ret_eq Q (carry m c 0 12))
  isplitr; · ipureintro; rfl
  iapply Hk $$ H

set_option maxHeartbeats 1000000 in
/-- The last four blocks of half 0. -/
theorem part9_run (Q : PUnit → sProp 𝕄) :
    iprop(bo m c 12 ∗ (bo m c 16 -∗ Q PUnit.unit))
      ⊢ wp frame (wpE (defs₀ (F := F)) 𝒱₀ (c : Thread nD τ) none) Set.univ
          (k0_part9 xM h0 oM h1 bM h2 tM h3 cc0_scratch2 cc0_scratch3 (devW c) k0_pay7 (carry m c 0 12)) Q := by
  rw [k0_part9_eq_skeleton]; unfold k0_part9_skel
  simp only [Prog.lift, Prog.bind_op, Prog.bind_ret, Prog.pure_eq_ret]
  iintro ⟨H, Hk⟩
  iapply (step_block m c 12 0 12 rfl) $$ [H]
  · isplitr; · ipureintro; exact ⟨rfl, rfl, rfl⟩
    iexact H
  iintro H
  iapply (step_block m c 13 0 13 rfl) $$ [H]
  · isplitr; · ipureintro; exact ⟨rfl, rfl, rfl⟩
    iexact H
  iintro H
  iapply (step_block m c 14 0 14 rfl) $$ [H]
  · isplitr; · ipureintro; exact ⟨rfl, rfl, rfl⟩
    iexact H
  iintro H
  iapply (step_block m c 15 0 15 rfl) $$ [H]
  · isplitr; · ipureintro; exact ⟨rfl, rfl, rfl⟩
    iexact H
  iintro H
  rw [wp_ret]; imodintro
  iapply Hk $$ H

set_option maxHeartbeats 1000000 in
/-- The first four blocks of half 1, and block 4 read. -/
theorem part11_run (Q : (Σ' (v330 : FVec F S1x512 .f32) (v331 : Vec F S256x512 .bf16), FVec F S256x512 .f32) → sProp 𝕄) :
    iprop(bo m c 16 ∗ (bo m c 20 -∗ Q ⟨carry m c 1 4, xblk m c 1 4, constant S256x512 .f32 0x00000000#32⟩))
      ⊢ wp frame (wpE (defs₀ (F := F)) 𝒱₀ (c : Thread nD τ) none) Set.univ
          (k0_part11 xM h0 oM h1 bM h2 tM h3 cc0_scratch2 cc0_scratch3 k0_pay7 (k0_pay55 (tots m c 1)) (k0_pay56 (devW c)) (k0_pay57 (F := F))) Q := by
  rw [k0_part11_eq_skeleton]; unfold k0_part11_skel
  simp only [Prog.lift, Prog.bind_op, Prog.bind_ret, Prog.pure_eq_ret]
  iintro ⟨H, Hk⟩
  iapply (step_block m c 0 1 16 rfl) $$ [H]
  · isplitr; · ipureintro; exact ⟨rfl, rfl, rfl⟩
    iexact H
  iintro H
  iapply (step_block m c 1 1 17 rfl) $$ [H]
  · isplitr; · ipureintro; exact ⟨rfl, rfl, rfl⟩
    iexact H
  iintro H
  iapply (step_block m c 2 1 18 rfl) $$ [H]
  · isplitr; · ipureintro; exact ⟨rfl, rfl, rfl⟩
    iexact H
  iintro H
  iapply (step_block m c 3 1 19 rfl) $$ [H]
  · isplitr; · ipureintro; exact ⟨rfl, rfl, rfl⟩
    iexact H
  iintro H
  iapply (step_get' m c 4 1 20) $$ [H]
  · isplitr; · ipureintro; exact ⟨rfl, rfl⟩
    iexact H
  iintro H
  rw [wp_ret]; imodintro
  iapply (ret_eq Q ⟨carry m c 1 4, xblk m c 1 4, constant S256x512 .f32 0x00000000#32⟩)
  isplitr; · ipureintro; rfl
  iapply Hk $$ H

set_option maxHeartbeats 1000000 in
/-- Block 4 of half 1 stored, and blocks 5 to 8. -/
theorem part12_run (Q : (Σ' (v358 : FVec F S1x512 .f32), FVec F S1x512 .f32) → sProp 𝕄) :
    iprop(bo m c 20 ∗ (bo m c 25 -∗ Q ⟨carry m c 1 8, last m c 1 8⟩))
      ⊢ wp frame (wpE (defs₀ (F := F)) 𝒱₀ (c : Thread nD τ) none) Set.univ
          (k0_part12 xM h0 oM h1 bM h2 tM h3 cc0_scratch2 cc0_scratch3 k0_pay7 (carry m c 1 4) (xblk m c 1 4) (constant S256x512 .f32 0x00000000#32)) Q := by
  rw [k0_part12_eq_skeleton]; unfold k0_part12_skel
  simp only [Prog.lift, Prog.bind_op, Prog.bind_ret, Prog.pure_eq_ret]
  iintro ⟨H, Hk⟩
  iapply (step_put' m c 4 1 20 rfl) $$ [H]
  · isplitr; · ipureintro; exact ⟨rfl, rfl, rfl⟩
    iexact H
  iintro H
  iapply (step_block m c 5 1 21 rfl) $$ [H]
  · isplitr; · ipureintro; exact ⟨rfl, rfl, rfl⟩
    iexact H
  iintro H
  iapply (step_block m c 6 1 22 rfl) $$ [H]
  · isplitr; · ipureintro; exact ⟨rfl, rfl, rfl⟩
    iexact H
  iintro H
  iapply (step_block m c 7 1 23 rfl) $$ [H]
  · isplitr; · ipureintro; exact ⟨rfl, rfl, rfl⟩
    iexact H
  iintro H
  iapply (step_block m c 8 1 24 rfl) $$ [H]
  · isplitr; · ipureintro; exact ⟨rfl, rfl, rfl⟩
    iexact H
  iintro H
  rw [wp_ret]; imodintro
  iapply (ret_eq Q ⟨carry m c 1 8, last m c 1 8⟩)
  isplitr; · ipureintro; rfl
  iapply Hk $$ H

set_option maxHeartbeats 1000000 in
/-- Blocks 9 to 12 of half 1, and block 13 read. -/
theorem part13_run (Q : (Σ' (v393 : FVec F S1x512 .f32) (v395 : FVec F S256x512 .f32), FVec F S256x512 .f32) → sProp 𝕄) :
    iprop(bo m c 25 ∗ (bo m c 29 -∗ Q ⟨carry m c 1 13, mm m c 1 13, outBlk m c 1 13⟩))
      ⊢ wp frame (wpE (defs₀ (F := F)) 𝒱₀ (c : Thread nD τ) none) Set.univ
          (k0_part13 xM h0 oM h1 bM h2 tM h3 cc0_scratch2 cc0_scratch3 k0_pay7 (carry m c 1 8) (last m c 1 8)) Q := by
  rw [k0_part13_eq_skeleton]; unfold k0_part13_skel
  simp only [Prog.lift, Prog.bind_op, Prog.bind_ret, Prog.pure_eq_ret]
  iintro ⟨H, Hk⟩
  iapply (step_block m c 9 1 25 rfl) $$ [H]
  · isplitr; · ipureintro; exact ⟨rfl, rfl, rfl⟩
    iexact H
  iintro H
  iapply (step_block m c 10 1 26 rfl) $$ [H]
  · isplitr; · ipureintro; exact ⟨rfl, rfl, rfl⟩
    iexact H
  iintro H
  iapply (step_block m c 11 1 27 rfl) $$ [H]
  · isplitr; · ipureintro; exact ⟨rfl, rfl, rfl⟩
    iexact H
  iintro H
  iapply (step_block m c 12 1 28 rfl) $$ [H]
  · isplitr; · ipureintro; exact ⟨rfl, rfl, rfl⟩
    iexact H
  iintro H
  iapply (step_get' m c 13 1 29) $$ [H]
  · isplitr; · ipureintro; exact ⟨rfl, rfl⟩
    iexact H
  iintro H
  rw [wp_ret]; imodintro
  iapply (ret_eq Q ⟨carry m c 1 13, mm m c 1 13, outBlk m c 1 13⟩)
  isplitr; · ipureintro; rfl
  iapply Hk $$ H

end Cert.PrefixProof

end
-- ==== Proof.Body.lean ====
/-
The kernel's body on one device, from what the launch deals it to the finished result, and the obligation the
pipeline's launch asks of it.
-/
module

public import proofs.«01_k».proof.Proof.PartsA
public import proofs.«01_k».proof.Proof.PartsB

@[expose] public section

noncomputable section

namespace Cert.PrefixProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from, piece by piece -/

set_option backward.proofsInPublic true in
omit [FloatOps F] in
/-- The fifteen cells of a device one by one: the barrier, the sends, the receives. -/
theorem cells_eq (P : Fin 15 → sProp 𝕄) : bigSep Finset.univ P
    = iprop(P 0 ∗ P (sI 1 0) ∗ P (sI 1 1) ∗ P (sI 2 0) ∗ P (sI 2 1) ∗ P (sI 3 0) ∗ P (sI 3 1)
      ∗ P (rI 0 0) ∗ P (rI 0 1) ∗ P (rI 1 0) ∗ P (rI 1 1) ∗ P (rI 2 0) ∗ P (rI 2 1) ∗ P (rI 3 0) ∗ P (rI 3 1)) :=
  bigSep_univ_eq_bigSepL [0, sI 1 0, sI 1 1, sI 2 0, sI 2 1, sI 3 0, sI 3 1, rI 0 0, rI 0 1, rI 1 0, rI 1 1, rI 2 0, rI 2 1, rI 3 0, rI 3 1]
    (by decide) (by decide) P

set_option backward.proofsInPublic true in
omit [FloatOps F] in
/-- The fifteen tokens of a device one by one: the signals', the landings', the sends'. -/
theorem toks_eq (c : Dev nD) : (payToks c : sProp 𝕄)
    = iprop(dutyTok ER (kcell (sh c 1, 0)) 0 1 ∗ dutyTok ER (kcell (sh c 2, 0)) 0 2 ∗ dutyTok ER (kcell (sh c 3, 0)) 0 3
      ∗ tokN (sh c 1) (rI 3 0) ∗ tokN (sh c 2) (rI 2 0) ∗ tokN (sh c 3) (rI 1 0)
      ∗ tokN (sh c 1) (rI 3 1) ∗ tokN (sh c 2) (rI 2 1) ∗ tokN (sh c 3) (rI 1 1)
      ∗ tokN c (sI 1 0) ∗ tokN c (sI 1 1) ∗ tokN c (sI 2 0) ∗ tokN c (sI 2 1) ∗ tokN c (sI 3 0) ∗ tokN c (sI 3 1)) := by
  unfold payToks
  rw [bigSep_univ_eq_bigSepL [(0 : Fin 15), 1, 2, 3, 4, 5, 6, 7, 8, 9, 10, 11, 12, 13, 14] (by decide) (by decide)]
  rfl

omit [FloatOps F] in
/-- The two column halves are the whole block. -/
theorem halves_all : (∅ ∪ halfSet 0 ∪ halfSet 1 : Finset S4096x1024.Idx) = Finset.univ := by
  ext i
  have h1 : (i 1).val < 1024 := (i 1).isLt
  have e0 : ((0 : Fin 2) : ℕ) = 0 := rfl
  have e1 : ((1 : Fin 2) : ℕ) = 1 := rfl
  simp only [halfSet, Finset.mem_union, Finset.mem_filter, Finset.mem_univ, true_and, Finset.notMem_empty, false_or, iff_true, e0, e1]
  omega

/-- The rows of totals, whatever they hold, one by one. -/
theorem rows_any (c : Dev nD) (f : Buf (Elt F) ((c : Thread nD τ).loc cc0_scratch1)) :
    (((c : Thread nD τ).loc cc0_scratch1) ↦{fullShare} f : sProp 𝕄)
      ⊢ iprop((rowAny c 0 0 ∗ rowAny c 0 1) ∗ (rowAny c 1 0 ∗ rowAny c 1 1) ∗ (rowAny c 2 0 ∗ rowAny c 2 1) ∗ (rowAny c 3 0 ∗ rowAny c 3 1)) := by
  iintro H
  ihave H := (whole_rows c f).1 $$ H
  icases H with ⟨⟨H00, H10, H20, H30⟩, H01, H11, H21, H31⟩
  unfold rowAny
  isplitl [H00 H01]
  · isplitl [H00] <;> (iexists f; iassumption)
  isplitl [H10 H11]
  · isplitl [H10] <;> (iexists f; iassumption)
  isplitl [H20 H21]
  · isplitl [H20] <;> (iexists f; iassumption)
  isplitl [H30] <;> (iexists f; iassumption)

/-- The two buffers of the kernel, whatever they hold. -/
def scr (c : Dev nD) : sProp 𝕄 :=
  iprop((∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)

/-- Half `g` of the four rows, all received and all sends done, is whole again. -/
theorem half_back (c : Dev nD) (g : Fin 2) :
    iprop(rowPts c 0 g (quarter 0) (commOf m c) ∗ rowPts c 0 g (quarter 1) (commOf m c) ∗ rowPts c 0 g (quarter 2) (commOf m c) ∗ rowPts c 0 g (quarter 3) (commOf m c)
        ∗ rowPts c 1 g fullShare (commOf m c) ∗ rowPts c 2 g fullShare (commOf m c) ∗ rowPts c 3 g fullShare (commOf m c))
      ⊢ (iprop(rowPts c 0 g fullShare (commOf m c) ∗ rowPts c 1 g fullShare (commOf m c) ∗ rowPts c 2 g fullShare (commOf m c) ∗ rowPts c 3 g fullShare (commOf m c)) : sProp 𝕄) := by
  iintro ⟨H0, H1, H2, H3, Hr⟩
  isplitl [H0 H1 H2 H3]
  · iapply (row_quarters c 0 g (commOf m c)).2
    isplitl [H0 H1]
    · isplitl [H0] <;> iassumption
    isplitl [H2] <;> iassumption
  iexact Hr

set_option backward.proofsInPublic true in
/-- A cell no transfer uses has no duty at all. -/
theorem duties_idle (c : Dev nD) (g : Fin 2) : ∀ r, 0 ≤ r → (rd (F := F) m).duties (kcell (c, rI 0 g)) r = ∅ := fun r _ => by
  rcases Nat.eq_zero_or_pos r with rfl | h
  · rw [duties_dma m c (rI 0 g) (qR 0 g) (csem_rI 0 g)]
    revert g; decide
  · exact duties_later m _ r h

/-- Every cell of the device at zero. -/
def zeros (c : Dev nD) : sProp 𝕄 := bigSep Finset.univ fun i : Fin 15 => semVal (kcell (c, i)) 0

/-- How many rounds cell `i` went through: one, none if no transfer uses it. -/
def rnd (i : Fin 15) : ℕ := if i = rI 0 0 ∨ i = rI 0 1 then 0 else 0 + 1

/-- All the cells closed. -/
theorem close_all (K : Dev nD × Fin 15 → ℕ) (c : Dev nD) :
    iprop(records m K ∗ bigSep Finset.univ fun i : Fin 15 => atPos ER (kcell (c, i)) (rnd i) ∅ 0) ⊢ (|={Set.univ}=> zeros c : sProp 𝕄) := by
  refine BI.Entails.trans ?_ (bigSep_fupd Finset.univ fun i : Fin 15 => (semVal (kcell (c, i)) 0 : sProp 𝕄))
  refine (sep_mono_left (BI.bigSep_of_persistent (Finset.univ : Finset (Fin 15)) (records m K))).trans ?_
  rw [← bigSep_sep']
  refine bigSep_mono fun i _ => step_close m K c i (rnd i) ?_
  unfold rnd
  split
  · rename_i h
    rcases h with rfl | rfl
    · exact duties_idle m c 0
    · exact duties_idle m c 1
  · exact duties_later m _

/-! ## The body -/

set_option maxHeartbeats 4000000 in
/-- The whole body on device `c`: from the launch's resources to the result, every cell at zero and nothing owed. -/
theorem body_run (K : Dev nD × Fin 15 → ℕ) (c : Dev nD) (h0 : xM.IsWhole) (h1 : oM.IsWhole) (h2 : bM.IsWhole) (h3 : tM.IsWhole) (Q : PUnit → sProp 𝕄) :
    iprop((ghost m K c ∗ creds c ∗ levAts L lv ∗ scr c ∗ owesE c (owe c dues) ∗ xPts m c
        ∗ ∃ f : Buf (Elt F) ((c : Thread nD τ).loc cc0_stg1_0), ((c : Thread nD τ).loc cc0_stg1_0) ↦{fullShare} f)
      ∗ ((scr c ∗ zeros c ∗ owesE c 0 ∗ xPts m c ∗ (((c : Thread nD τ).loc cc0_stg1_0) ↦{fullShare} outOf m c)) -∗ Q PUnit.unit))
      ⊢ wp frame (wpE (defs₀ (F := F)) 𝒱₀ (c : Thread nD τ) none) Set.univ
          (cc0_body xM h0 oM h1 bM h2 tM h3 cc0_scratch2 cc0_scratch3) Q := by
  rw [cc0_body_eq_skeleton]; unfold cc0_body_skel
  unfold ghost creds scr
  rw [cells_eq, toks_eq]
  iintro ⟨⟨⟨#HK, ⟨Ha0, Ha10, Ha11, Ha20, Ha21, Ha30, Ha31, Hb00, Hb01, Hb10, Hb11, Hb20, Hb21, Hb30, Hb31⟩,
      Ht1, Ht2, Ht3, Hl10, Hl20, Hl30, Hl11, Hl21, Hl31, Hs10, Hs11, Hs20, Hs21, Hs30, Hs31⟩,
      ⟨Hc, Hc10, Hc20, Hc30, Hc11, Hc21, Hc31⟩, #Hlev, ⟨⟨%fb, Hb⟩, ⟨%ft, Ht⟩⟩, HO, Hx, ⟨%fo, Ho⟩⟩, Hk⟩
  ihave Ht := (rows_any c ft) $$ Ht
  icases Ht with ⟨⟨Hr00, Hr01⟩, Hr1, Hr2, Hr3⟩
  rw [wp_bind]
  iapply (part1_run m K c h0 h1 h2 h3)
  isplitl [HO Ht1 Ht2 Ht3 Hr1 Hr2 Hr3 Hc Ha0 Hx Hb]
  · isplitr; · iexact HK
    isplitr; · iexact Hlev
    isplitl [HO]; · iexact HO
    isplitl [Ht1 Hr1]
    · isplitl [Ht1] <;> iassumption
    isplitl [Ht2 Hr2]
    · isplitl [Ht2] <;> iassumption
    isplitl [Ht3 Hr3]
    · isplitl [Ht3] <;> iassumption
    isplitl [Hc]; · iexact Hc
    isplitl [Ha0]; · iexact Ha0
    isplitl [Hx]; · iexact Hx
    unfold bPts
    iexists fb
    isplitr; · ipureintro; exact fun i hi => absurd hi (Finset.notMem_empty i)
    iexact Hb
  iintro ⟨HO, Ha0, ⟨Hd10, Hd11⟩, ⟨Hd20, Hd21⟩, ⟨Hd30, Hd31⟩, Hx, Hb⟩
  dsimp only
  rw [wp_bind]
  iapply (part2_run m K c h0 h1 h2 h3)
  isplitl [HO Hr00 Hd30 Hs10 Hl10 Hd20 Hs20 Hl20]
  · unfold sendRes
    isplitr; · iexact HK
    isplitl [Hr00]; · iexact Hr00
    isplitl [HO]; · iexact HO
    isplitl [Hd30 Hs10 Hl10]
    · isplitl [Hd30]; · iexact Hd30
      isplitl [Hs10] <;> iassumption
    isplitl [Hd20]; · iexact Hd20
    isplitl [Hs20] <;> iassumption
  iintro %v ⟨Hq00, Hq03, Hk10, Hk20, HO⟩
  rw [wp_bind]
  iapply (part3_run m K c h0 h1 h2 h3)
  isplitl [Hq03 HO Hd10 Hs30 Hl30 Hx Hb Hr01]
  · unfold sendRes
    isplitr; · iexact HK
    isplitl [Hq03]; · iexact Hq03
    isplitl [HO]; · iexact HO
    isplitl [Hd10 Hs30 Hl30]
    · isplitl [Hd10]; · iexact Hd10
      isplitl [Hs30] <;> iassumption
    isplitl [Hx]; · iexact Hx
    isplitl [Hb] <;> iassumption
  iintro ⟨Hk30, HO, Hx, Hb, Hr01⟩
  rw [wp_bind]
  iapply (part4_run m K c h0 h1 h2 h3)
  isplitl [Hr01 HO Hd31 Hs11 Hl11 Hd21 Hs21 Hl21 Hd11 Hs31 Hl31]
  · unfold sendRes
    isplitr; · iexact HK
    isplitl [Hr01]; · iexact Hr01
    isplitl [HO]; · iexact HO
    isplitl [Hd31 Hs11 Hl11]
    · isplitl [Hd31]; · iexact Hd31
      isplitl [Hs11] <;> iassumption
    isplitl [Hd21 Hs21 Hl21]
    · isplitl [Hd21]; · iexact Hd21
      isplitl [Hs21] <;> iassumption
    isplitl [Hd11]; · iexact Hd11
    isplitl [Hs31] <;> iassumption
  iintro ⟨Hq10, Hk11, Hk21, Hk31, HO⟩
  rw [wp_bind]
  iapply (part5_run m K c h0 h1 h2 h3)
  isplitl [HO Hc10 Hb10 Hc20 Hb20]
  · unfold recvRes
    isplitr; · iexact HK
    isplitl [HO]; · iexact HO
    isplitl [Hc10 Hb10]
    · isplitl [Hc10] <;> iassumption
    isplitl [Hc20] <;> iassumption
  iintro ⟨HO, Hv10, Hv20⟩
  rw [wp_bind]
  iapply (part6_run m K c h0 h1 h2 h3)
  isplitl [HO Hc30 Hb30 Hv10 Hv20 Hq00 Hb Ho]
  · isplitr; · iexact HK
    isplitl [HO]; · iexact HO
    isplitl [Hc30 Hb30]
    · unfold recvRes
      isplitl [Hc30] <;> iassumption
    isplitl [Hv10]; · iexact Hv10
    isplitl [Hv20]; · iexact Hv20
    isplitl [Hq00]; · iexact Hq00
    unfold bo
    isplitl [Hb]
    · rw [halves_all]; iexact Hb
    unfold oPts
    iexists fo
    isplitr; · ipureintro; exact fun i hi => absurd (done_none ▸ hi) (Finset.notMem_empty i)
    iexact Ho
  iintro ⟨HO, Hv10, Hv20, Hv30, Hq00, H⟩
  dsimp only
  rw [wp_bind]
  iapply (part7_run m c h0 h1 h2 h3)
  isplitl [H]; · iexact H
  iintro H
  dsimp only
  rw [wp_bind]
  iapply (part8_run m c h0 h1 h2 h3)
  isplitl [H]; · iexact H
  iintro H
  rw [wp_bind]
  iapply (part9_run m c h0 h1 h2 h3)
  isplitl [H]; · iexact H
  iintro H
  rw [wp_bind]
  iapply (part10_run m K c h0 h1 h2 h3)
  isplitl [HO Hc11 Hb11 Hc21 Hb21 Hc31 Hb31 Hq10]
  · unfold recvRes
    isplitr; · iexact HK
    isplitl [HO]; · iexact HO
    isplitl [Hc11 Hb11]
    · isplitl [Hc11] <;> iassumption
    isplitl [Hc21 Hb21]
    · isplitl [Hc21] <;> iassumption
    isplitl [Hc31 Hb31]
    · isplitl [Hc31] <;> iassumption
    iexact Hq10
  iintro ⟨HO, Hv11, Hv21, Hv31, Hq10⟩
  dsimp only
  rw [wp_bind]
  iapply (part11_run m c h0 h1 h2 h3)
  isplitl [H]; · iexact H
  iintro H
  dsimp only
  rw [wp_bind]
  iapply (part12_run m c h0 h1 h2 h3)
  isplitl [H]; · iexact H
  iintro H
  dsimp only
  rw [wp_bind]
  iapply (part13_run m c h0 h1 h2 h3)
  isplitl [H]; · iexact H
  iintro H
  dsimp only
  rw [wp_bind]
  iapply (part14_run m K c h0 h1 h2 h3)
  isplitl [HO Hk10 Ha10 H]
  · unfold sentRes
    isplitr; · iexact HK
    isplitl [HO]; · iexact HO
    isplitl [Hk10 Ha10]
    · isplitl [Hk10] <;> iassumption
    iexact H
  iintro ⟨HO, Hz10, H⟩
  rw [wp_bind]
  iapply (part15_run m K c h0 h1 h2 h3)
  isplitl [HO Hk20 Ha20 Hk30 Ha30 Hk11 Ha11 Hk21 Ha21]
  · unfold sentRes
    isplitr; · iexact HK
    isplitl [HO]; · iexact HO
    isplitl [Hk20 Ha20]
    · isplitl [Hk20] <;> iassumption
    isplitl [Hk30 Ha30]
    · isplitl [Hk30] <;> iassumption
    isplitl [Hk11 Ha11]
    · isplitl [Hk11] <;> iassumption
    isplitl [Hk21] <;> iassumption
  iintro ⟨HO, Hz20, Hz30, Hz11, Hz21⟩
  simp only [Prog.lift, Prog.bind_op, Prog.bind_ret, Prog.pure_eq_ret]
  iapply (step_sent' m K c 3 1 (by decide)) $$ [HO Hk31 Ha31]
  · isplitr; · ipureintro; exact ⟨rfl, rfl⟩
    isplitr; · iexact HK
    isplitl [HO]; · iexact HO
    unfold sentRes
    isplitl [Hk31] <;> iassumption
  iintro ⟨HO, Hz31⟩
  unfold sent recvd
  icases Hz10 with ⟨Ha10, Hq01⟩
  icases Hz20 with ⟨Ha20, Hq02⟩
  icases Hz30 with ⟨Ha30, Hq03⟩
  icases Hz11 with ⟨Ha11, Hq11⟩
  icases Hz21 with ⟨Ha21, Hq12⟩
  icases Hz31 with ⟨Ha31, Hq13⟩
  icases Hv10 with ⟨Hb10, Hv10⟩
  icases Hv20 with ⟨Hb20, Hv20⟩
  icases Hv30 with ⟨Hb30, Hv30⟩
  icases Hv11 with ⟨Hb11, Hv11⟩
  icases Hv21 with ⟨Hb21, Hv21⟩
  icases Hv31 with ⟨Hb31, Hv31⟩
  ihave Hg0 := (half_back m c 0) $$ [Hq00 Hq01 Hq02 Hq03 Hv10 Hv20 Hv30]
  · isplitl [Hq00]; · iexact Hq00
    isplitl [Hq01]; · iexact Hq01
    isplitl [Hq02]; · iexact Hq02
    isplitl [Hq03]; · iexact Hq03
    isplitl [Hv10]; · iexact Hv10
    isplitl [Hv20] <;> iassumption
  ihave Hg1 := (half_back m c 1) $$ [Hq10 Hq11 Hq12 Hq13 Hv11 Hv21 Hv31]
  · isplitl [Hq10]; · iexact Hq10
    isplitl [Hq11]; · iexact Hq11
    isplitl [Hq12]; · iexact Hq12
    isplitl [Hq13]; · iexact Hq13
    isplitl [Hv11]; · iexact Hv11
    isplitl [Hv21] <;> iassumption
  ihave Ht := (whole_rows c (commOf m c)).2 $$ [Hg0 Hg1]
  · isplitl [Hg0] <;> iassumption
  imod (close_all m K c) $$ [Ha0 Ha10 Ha11 Ha20 Ha21 Ha30 Ha31 Hb00 Hb01 Hb10 Hb11 Hb20 Hb21 Hb30 Hb31] with Hz
  · isplitr; · iexact HK
    rw [cells_eq]
    isplitl [Ha0]; · iexact Ha0
    isplitl [Ha10]; · iexact Ha10
    isplitl [Ha11]; · iexact Ha11
    isplitl [Ha20]; · iexact Ha20
    isplitl [Ha21]; · iexact Ha21
    isplitl [Ha30]; · iexact Ha30
    isplitl [Ha31]; · iexact Ha31
    isplitl [Hb00]; · iexact Hb00
    isplitl [Hb01]; · iexact Hb01
    isplitl [Hb10]; · iexact Hb10
    isplitl [Hb11]; · iexact Hb11
    isplitl [Hb20]; · iexact Hb20
    isplitl [Hb21]; · iexact Hb21
    isplitl [Hb30]; · iexact Hb30
    iexact Hb31
  rw [wp_ret]; imodintro
  iapply Hk
  unfold bo bPts oPts
  icases H with ⟨⟨%fb', %hb', Hb⟩, ⟨%fo', %ho', Ho⟩⟩
  have ho : fo' = outOf m c := funext fun i => ho' i (by rw [done_all]; exact Finset.mem_univ i)
  subst ho
  isplitl [Hb Ht]
  · isplitl [Hb]
    · iexists fb'; iexact Hb
    iexists (commOf m c); iexact Ht
  isplitl [Hz]; · iexact Hz
  isplitl [HO]; · iexact HO
  isplitl [Hx] <;> iassumption

end Cert.PrefixProof

end
-- ==== Proof.Launch.lean ====
/-
The launch of the prefix-sum kernel: the pipeline's proof data, the body's obligation, the ghost state and the credit
dealt to the four devices, and the run of the whole program with the contents it leaves.
-/
module

public import proofs.«01_k».proof.Proof.Body
public import Idealize.ShloMosaic.Lib.Pipeline.CollectiveSegs

@[expose] public section

noncomputable section

namespace Cert.PrefixProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents and registers, every counter zero. -/
def s₀ : MemSt nD τ sig (Elt F) := ⟨m, fun _ => 0, ρ⟩

/-! ## The pipeline's data -/

/-- What device `c` starts from. -/
def start (c : Dev nD) : sProp 𝕄 := iprop((∃ K, ghost m K c) ∗ creds c ∗ levAts L lv)
/-- What holds before the body. -/
def Φ₀ (c : Dev nD) : sProp 𝕄 := iprop(start m c ∗ scr c)
/-- What holds after it. -/
def Φ₁ (c : Dev nD) : sProp 𝕄 := iprop(scr c ∗ zeros c)

/-- The one grid point's data: the result's buffer ends at `outOf`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outOf m c
  Φ t := match t with
    | ⟨0, _⟩ => Φ₀ m c
    | ⟨_ + 1, _⟩ => Φ₁ c
  q _ := fullShare
  owed t := match t with
    | ⟨0, _⟩ => owe c dues
    | ⟨_ + 1, _⟩ => 0

/-- Device `c`'s buffer `b` whole, at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

omit [FloatOps F] in
theorem windows_eq (Φ : Fin cfg0.W → sProp 𝕄) : bigSep Finset.univ Φ = iprop(Φ (0 : Fin 2) ∗ Φ (1 : Fin 2)) := bigSep_W0 Φ

theorem fetched (t : Fin cfg0.N) : (cfg0.win (0 : Fin 2)).fetch t = true := by rw [fin_N0 t]; rfl

/-- What the body is given. -/
def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
/-- What the body leaves. -/
def bodyPost (c : Dev nD) : sProp 𝕄 :=
  iprop(Φ₁ c ∗ (dats m ρ 0 c).owesAt () t0_0.succ ∗ stg c cc0_stg0_0 (xstg m c) ∗ stg c cc0_stg1_0 (outOf m c))

/-- The body from the pipeline's resources to the pipeline's resources. -/
theorem body_sound (c : Dev nD) :
    bodyPre m ρ c ⊢ wp frame (wpE (defs₀ (F := F)) 𝒱₀ (c : Thread nD τ) none) Set.univ
      (cc0_body xM (Memref.isWhole_whole _) oM (Memref.isWhole_whole _) bM (Memref.isWhole_whole _) tM (Memref.isWhole_whole _) cc0_scratch2 cc0_scratch3)
      (fun _ => bodyPost m ρ c) := by
  unfold bodyPre Φ₀ start
  iintro ⟨⟨⟨⟨%K, Hg⟩, Hc, Hl⟩, Hs⟩, Ho, ⟨%d0, %g0, %hg0, Hx⟩, ⟨%d1, %g1, %hg1, Hr⟩⟩
  have hx : g0 = xstg m c := by rw [hg0]; unfold Dat.before; rw [if_pos (fetched t0_0)]; rfl
  subst hx
  unfold Dat.owesAt Pipeline.owesWithin
  icases Ho with ⟨%W, %hW, HO⟩
  rw [show (dats m ρ 0 c).owed t0_0.castSucc = owe c dues from rfl]
  iapply (body_run m K c (Memref.isWhole_whole _) (Memref.isWhole_whole _) (Memref.isWhole_whole _) (Memref.isWhole_whole _))
  isplitl
  · isplitl [Hg]; · iexact Hg
    isplitl [Hc]; · iexact Hc
    isplitl [Hl]; · iexact Hl
    isplitl [Hs]; · iexact Hs
    isplitl [HO]
    · unfold owesE; iexists W; iexact HO
    isplitl [Hx]
    · unfold xPts; iexact Hx
    iexists g1; iexact Hr
  unfold owesE xPts
  iintro ⟨Hs, Hz, ⟨%W', HO⟩, Hx, Hr⟩
  unfold bodyPost Φ₁ Dat.owesAt Pipeline.owesWithin
  rw [show (dats m ρ 0 c).owed t0_0.succ = 0 from rfl]
  isplitl [Hs Hz]
  · isplitl [Hs] <;> iassumption
  isplitl [HO]
  · iexists W'
    isplitr; · ipureintro; exact fun _ _ => Or.inl trivial
    iexact HO
  isplitl [Hx]
  · iexists (xstg m c); isplitr; · (ipureintro; rfl)
    iexact Hx
  iexists (outOf m c); isplitr; · (ipureintro; rfl)
  iexact Hr

set_option maxRecDepth 4000 in
/-- The obligation of the launch. -/
theorem body_obligation (c : Dev nD) : BodyObligation (dats (F := F) m ρ 0 c) (defs₀ (F := F)) 𝒱₀ () Set.univ := fun t => by
  rw [fin_N0 t]
  rw [windows_eq, windows_eq]
  simp only [owns_stg]
  exact body_sound m ρ c

/-! ## The cells and the tokens -/

theorem ownSemFacts : Pipeline.OwnSemFacts cfg0.spec osem := by decide

theorem share_eq (c : Dev nD) (w : Fin cfg0.W) : (dats m ρ 0 c).share w = fullShare := by unfold Dat.share; split <;> rfl

set_option backward.proofsInPublic true in
theorem csem_injective : Function.Injective csem := by decide

theorem kcell_injective : Function.Injective (kcell : Dev nD × Fin 15 → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- All the cells. -/
def allCells : Finset (GSem nD τ sig) := Finset.univ.map ⟨kcell, kcell_injective⟩

set_option backward.proofsInPublic true in
/-- The place of a token: its cell and its duty. -/
def tokAt (x : Dev nD × Fin 15) : (Dev nD × Fin 15) × Fin 4 :=
  if h : x.2.val < 9 then (tgt x.1 ⟨x.2.val, h⟩, dty ⟨x.2.val, h⟩)
  else ((x.1, ⟨x.2.val - 8, by have := x.2.isLt; omega⟩), 0)

theorem tokOf_eq (x : Dev nD × Fin 15) : tokOf x = (kcell (tokAt x).1, 0, (tokAt x).2) := by
  unfold tokAt
  show (if h : x.2.val < 9 then _ else _) = _
  by_cases h : x.2.val < 9
  · rw [dif_pos h, dif_pos h]
  · rw [dif_neg h, dif_neg h]

set_option backward.proofsInPublic true in
set_option maxRecDepth 100000 in
/-- No two payments go to one duty of one cell. -/
theorem tokAt_injective : Function.Injective tokAt := by decide +kernel

theorem tokOf_injective : Function.Injective (tokOf : Dev nD × Fin 15 → GSem nD τ sig × ℕ × Fin 4) := by
  intro x y h
  rw [tokOf_eq, tokOf_eq] at h
  refine tokAt_injective (Prod.ext (kcell_injective (congrArg Prod.fst h)) ?_)
  exact congrArg (fun z : GSem nD τ sig × ℕ × Fin 4 => z.2.2) h

/-- All the tokens. -/
def allToks : Finset (GSem nD τ sig × ℕ × Fin 4) := Finset.univ.map ⟨tokOf, tokOf_injective⟩

/-- The ghost element the launch starts from. -/
def u₀ : UU :=
  (initOf (Pipeline.cells cfgs cellOf_inj) (Pipeline.launchToks cfgs cellOf_inj), initOf allCells allToks)

/-- What device `c` is dealt of it. -/
def G (c : Dev nD) : sProp 𝕄 :=
  iprop((bigSep Finset.univ fun k : Fin 15 => roundState ER (rd m) (kcell (c, k)) 0)
    ∗ (bigSep Finset.univ fun k : Fin 15 => atPos ER (kcell (c, k)) 0 ∅ 0)
    ∗ (bigSep Finset.univ fun k : Fin 15 => reached ER (kcell (c, k)) 0) ∗ payToks c)

/-- What the step over all the devices makes of that. -/
def G' (c : Dev nD) : sProp 𝕄 := iprop(∃ K, ghost m K c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 15 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => payToks c := by
    unfold allToks; rw [bigSep_map, bigSep_univ_prod]; rfl
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr'] <;> iassumption

/-! ## The step over all the devices -/

set_option backward.proofsInPublic true in
omit [FloatOps F] in
/-- The kernel's own semaphores and the barrier are the fifteen cells. -/
theorem sems_eq (c : Dev nD) :
    iprop(Pipeline.ownSems0 (Ix := Unit) (Name := ℕ) (U := UU) (Lvl := ℕ) (Val := Elt F) (τ := τ) osem c ∗ unscopedSems0 c)
      = iprop((bigSep Finset.univ fun i : Fin 14 => semVal ((c : Thread nD τ), osem i) 0) ∗ (semVal (kcell (c, 0)) 0 : sProp 𝕄)) := by
  congr 1
  unfold unscopedSems0; rw [bigSep_eq_bigSepL_of_eq [SemLoc.reg barS] (by decide) (by decide)]; rfl

set_option backward.proofsInPublic true in
omit [FloatOps F] in
/-- The fifteen cells are the first and the fourteen others. -/
theorem zeros_eq (c : Dev nD) : (zeros c : sProp 𝕄)
    = iprop((semVal (kcell (c, 0)) 0 : sProp 𝕄) ∗ bigSep Finset.univ fun i : Fin 14 => semVal ((c : Thread nD τ), osem i) 0) := by
  unfold zeros
  rw [show (Finset.univ : Finset (Fin 15)) = insert 0 (Finset.univ.map ⟨Fin.succ, Fin.succ_injective 14⟩) from by decide,
    bigSep_insert (by decide), bigSep_map]
  rfl

omit [FloatOps F] in
theorem sems_zeros (c : Dev nD) :
    iprop(Pipeline.ownSems0 (Ix := Unit) (Name := ℕ) (U := UU) (Lvl := ℕ) (Val := Elt F) (τ := τ) osem c ∗ unscopedSems0 c) ⊢ (zeros c : sProp 𝕄) := by
  rw [sems_eq, zeros_eq]
  iintro ⟨H, H0⟩
  isplitl [H0] <;> iassumption

omit [FloatOps F] in
theorem zeros_sems (c : Dev nD) : (zeros c : sProp 𝕄) ⊢
    iprop(Pipeline.ownSems0 (Ix := Unit) (Name := ℕ) (U := UU) (Lvl := ℕ) (Val := Elt F) (τ := τ) osem c ∗ unscopedSems0 c) := by
  rw [sems_eq, zeros_eq]
  iintro ⟨H0, H⟩
  isplitl [H] <;> iassumption

/-- One device's cells opened as invariants. -/
theorem core_open (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 15 => iprop(∃ κ : ℕ, cellInv ER (rd m) κ (kcell (c, k))))
          ∗ (bigSep Finset.univ fun k : Fin 15 => reached ER (kcell (c, k)) 0)
          ∗ (bigSep Finset.univ fun k : Fin 15 => atPos ER (kcell (c, k)) 0 ∅ 0) ∗ payToks c) := by
  have hopen : iprop(zeros c ∗ bigSep Finset.univ fun k : Fin 15 => roundState ER (rd m) (kcell (c, k)) 0)
      ⊢ (|={Set.univ}=> bigSep Finset.univ fun k : Fin 15 => iprop(∃ κ : ℕ, cellInv ER (rd m) κ (kcell (c, k))) : sProp 𝕄) := by
    unfold zeros
    rw [← bigSep_sep']
    exact (bigSep_mono fun k _ => (Rounds.body_intro ER (rd m) (kcell (c, k))).trans inv_alloc).trans (bigSep_fupd _ _)
  unfold G
  iintro ⟨Hos, Hus, Hst, Hat, Hr, Htok⟩
  ihave Hv := (sems_zeros (F := F) c) $$ [Hos Hus]
  · isplitl [Hos] <;> iassumption
  imod hopen $$ [Hv Hst] with Hinv
  · isplitl [Hv] <;> iassumption
  imodintro
  isplitl [Hinv]; · iexact Hinv
  isplitl [Hr]; · iexact Hr
  isplitl [Hat] <;> iassumption

/-- The invariants and the round facts of all the devices given to each. -/
theorem share_records :
    (bigSep Finset.univ fun c : Dev nD => iprop((bigSep Finset.univ fun k : Fin 15 => iprop(∃ κ : ℕ, cellInv ER (rd m) κ (kcell (c, k))))
          ∗ (bigSep Finset.univ fun k : Fin 15 => reached ER (kcell (c, k)) 0)
          ∗ (bigSep Finset.univ fun k : Fin 15 => atPos ER (kcell (c, k)) 0 ∅ 0) ∗ payToks c) : sProp 𝕄)
      ⊢ bigSep Finset.univ (G' m) := by
  rw [bigSep_sep', bigSep_sep', ← bigSep_univ_prod (fun x : Dev nD × Fin 15 => iprop(∃ κ : ℕ, cellInv ER (rd m) κ (kcell x))),
    ← bigSep_univ_prod (fun x : Dev nD × Fin 15 => (reached ER (kcell x) 0 : sProp 𝕄))]
  iintro ⟨HI, HR, Hrest⟩
  ihave HK := (BI.bigSep_exists_pi Finset.univ (fun (x : Dev nD × Fin 15) (κ : ℕ) => (cellInv ER (rd m) κ (kcell x) : sProp 𝕄))) $$ HI
  icases HK with ⟨%K, HI⟩
  have hrec : iprop((bigSep Finset.univ fun x : Dev nD × Fin 15 => cellInv ER (rd m) (K x) (kcell x)) ∗ bigSep Finset.univ fun x : Dev nD × Fin 15 => (reached ER (kcell x) 0 : sProp 𝕄))
      ⊢ (records m K : sProp 𝕄) := by unfold records; rw [bigSep_sep']
  have heach : iprop(records m K ∗ bigSep Finset.univ fun c : Dev nD => iprop((bigSep Finset.univ fun k : Fin 15 => atPos ER (kcell (c, k)) 0 ∅ 0) ∗ payToks c))
      ⊢ (bigSep Finset.univ (G' m) : sProp 𝕄) := by
    refine (sep_mono_left (BI.bigSep_of_persistent (Finset.univ : Finset (Dev nD)) (records m K))).trans ?_
    rw [← bigSep_sep']
    refine bigSep_mono fun c _ => ?_
    show ghost m K c ⊢ iprop(∃ K, ghost m K c)
    iintro H
    iexists K
    iexact H
  iapply heach
  isplitl [HI HR]
  · iapply hrec
    isplitl [HI] <;> iassumption
  iexact Hrest

/-- The step over all the devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_open m c).trans (bigSep_fupd _ _)).trans (BI.fupd_mono (share_records m))

/-! ## The credit at launch -/

set_option backward.proofsInPublic true in
/-- What device `d` owes a cell: its payments to that cell, each of that cell's amount. -/
theorem owe_at (d : Dev nD) (x : Dev nD × Fin 15) : ∀ l : List (Fin 9), owe d l (kcell x) () = l.countP (fun e => decide (tgt d e = x)) * amt x.2
  | [] => (Nat.zero_mul _).symm
  | e :: l => by
    have ih := owe_at d x l
    unfold owe
    rw [Pi.add_apply, Finsupp.add_apply, tallyAt_apply, ih, List.countP_cons, Nat.add_mul]
    congr 1
    by_cases h : tgt d e = x
    · rw [if_pos ⟨by rw [h], rfl⟩, if_pos (decide_eq_true h), h, Nat.one_mul]
    · rw [if_neg (fun h' => h (kcell_injective h'.1).symm), if_neg (fun h' => h (of_decide_eq_true h')), Nat.zero_mul]

set_option backward.proofsInPublic true in
/-- The cells that are waited on by credit from the launch. -/
abbrev credCells : Finset (Fin 15) := {0, rI 1 0, rI 2 0, rI 3 0, rI 1 1, rI 2 1, rI 3 1}

set_option backward.proofsInPublic true in
set_option maxRecDepth 100000 in
/-- Each such barrier is owed three payments by the devices together, each such receive one. -/
theorem owed_count : ∀ (c : Dev nD) (i : Fin 15), i ∈ credCells →
    (∑ d : Dev nD, dues.countP (fun e => decide (tgt d e = (c, i)))) = if i = 0 then 3 else 1 := by decide +kernel

/-- The launch's credit on such a cell. -/
theorem launch_at (c : Dev nD) (i : Fin 15) (hi : i ∈ credCells) :
    tallyOn (kcell (c, i)) (launchCredit (Pipeline.owing fun d => owe d dues) 0 (kcell (c, i)))
      = (tallyAt (kcell (c, i)) () ((if i = 0 then 3 else 1) * amt i) : CellTallies nD τ sig Unit) := by
  unfold tallyAt; refine congrArg _ (Finsupp.ext fun u => ?_); cases u
  rw [Pipeline.launchCredit_owing, Finsupp.single_eq_same, Finset.sum_congr rfl fun d _ => owe_at d (c, i) dues, ← Finset.sum_mul, owed_count c i hi]

set_option backward.proofsInPublic true in
omit [FloatOps F] in
/-- The launch deals each device the credit it waits with. -/
theorem creds_intro (c : Dev nD) : (Pipeline.launchCred (fun d => owe d dues) c : sProp 𝕄) ⊢ creds c := by
  unfold Pipeline.launchCred
  refine (bigSep_subset (Finset.subset_univ (credCells.map ⟨csem, csem_injective⟩))).trans ?_
  rw [bigSep_map]
  refine (Entails.of_eq (bigSep_congr (Ψ := fun i : Fin 15 => (cred (tallyAt (kcell (c, i)) () ((if i = 0 then 3 else 1) * amt i)) : sProp 𝕄))
    fun i hi => congrArg cred (launch_at c i hi))).trans ?_
  unfold creds
  rw [bigSep_eq_bigSepL_of_eq [0, rI 1 0, rI 2 0, rI 3 0, rI 1 1, rI 2 1, rI 3 1] (by decide) (by decide)]
  have e0 : (if (0 : Fin 15) = 0 then 3 else 1) * amt 0 = 3 := rfl
  have e1 : ∀ (j : Fin 4) (g : Fin 2), j ≠ 0 → (if rI j g = 0 then 3 else 1) * amt (rI j g) = N := fun j g hj => by
    have h : rI j g ≠ 0 := (by decide : ∀ (j : Fin 4) (g : Fin 2), j ≠ 0 → rI j g ≠ 0) j g hj
    have h' : ¬ (rI j g).val = 0 := fun h' => h (Fin.ext h')
    rw [if_neg h, Nat.one_mul]; exact if_neg h'
  rw [bigSepL_cons_cons, bigSepL_cons_cons, bigSepL_cons_cons, bigSepL_cons_cons, bigSepL_cons_cons, bigSepL_cons_cons, bigSepL_singleton]
  rw [e0, e1 1 0 (by decide), e1 2 0 (by decide), e1 3 0 (by decide), e1 1 1 (by decide), e1 2 1 (by decide), e1 3 1 (by decide)]
  exact BI.Entails.refl _

/-! ## The launch's side conditions -/

theorem start_intro (c : Dev nD) :
    iprop(Pipeline.unscopedRestP Pipeline.Prefetch.none cfg0.spec c (fun b => m ((c : Thread nD τ).loc b)) ∗ levAts L lv
        ∗ Pipeline.launchCred (fun d => owe d dues) c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scr
  iintro ⟨Hr, Hz⟩
  ihave Hz := (zeros_sems (F := F) c) $$ Hz
  icases Hz with ⟨Ho, Hu⟩
  isplitl [Hu]; · iexact Hu
  isplitl [Ho] <;> iassumption

set_option backward.proofsInPublic true in
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low c _ (by fin_cases w <;> fin_cases s <;> rfl) dues
    · exact mayWait_low c _ (by fin_cases w <;> fin_cases s <;> rfl) []

/-! ## The run -/

/-- What each window's array holds in the end. -/
def finalA (c : Dev nD) (w : Fin cfg0.W) : Buf (Elt F) ((cfg0.win w).arr.view.loc (c : Thread nD τ)) := (dats m ρ 0 c).arrAt w cfg0.N

set_option maxRecDepth 8000 in
/-- From any memory with all counters at zero, for any floats: every fair execution of the four devices ends, with each
    device's arrays at `finalA` and every counter at zero. -/
theorem run_main : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun c => owe c dues) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The block of `x` is as it was. -/
theorem final_x (c : Dev nD) : finalA m ρ c (0 : Fin 2) = m ((c : Thread nD τ).loc main_arg0) :=
  (dats (F := F) m ρ 0 c).arrAt_in (0 : Fin 2) rfl _

end Cert.PrefixProof

end
-- ==== Proof.Frames.lean ====
/-
  The frame claims: each program ends without fault, leaves its argument as it was and every semaphore counter at zero;
  and the two windows' arrays of the kernel, at the end of its run.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

noncomputable section

namespace Cert.PrefixProof

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- The block that the input window stages is the device's whole array. -/
theorem staged_x (c : Dev nD) : xstg m c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- The result array ends as the body left the output window. -/
theorem final_out (c : Dev nD) : finalA m ρ c (1 : Fin 2) = outOf m c := by
  have hz : (fun a => (win0_1.index (0 : Fin 1)) a * main_v1.ty.shape.size a) = fun _ => 0 :=
    funext fun a => by fin_cases a <;> decide
  have hr := fun f => Memref.read_access_unit_zero (Elt F) main_v1 hz (fun a => by fin_cases a <;> decide) f
  refine (hr _).symm.trans ?_
  show (win0_1.blk (0 : Fin 1)).view.read (Elt F) (finalA m ρ c (1 : Fin 2)) = _
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

/-- The frame over any floats: the argument as it was, every counter at zero. -/
theorem frame_any : θ_run Cert.KernelIdeal.defs (onTc (τ := τ) (Cert.KernelIdeal.main (F := F))) ⟨m, fun _ => 0, ρ⟩ (fun r =>
    (∀ c : Dev nD, r.2.mem ((c.tc : Thread nD τ).loc main_arg0) = m ((c.tc : Thread nD τ).loc main_arg0)) ∧ r.2.sem = fun _ => 0) :=
  (θ_run Cert.KernelIdeal.defs _ _).mono (fun _ h => ⟨fun c => (h.1 c (0 : Fin 2)).trans (final_x m ρ c), h.2⟩) (run_main m ρ)

/-- The two printed programs have the same kernel bodies. -/
theorem bodies_same : Cert.Kernel.defs₀ (F := F) = Cert.KernelIdeal.defs₀ (F := F) := by
  unfold Cert.Kernel.defs₀ Cert.KernelIdeal.defs₀
  congr 1
  funext k a
  match k, a with
  | 0, (t, s) => rfl

/-- The two printed programs have the same body tables. -/
theorem defs_same : Cert.Kernel.defs (F := F) = Cert.KernelIdeal.defs (F := F) := by
  unfold Cert.Kernel.defs
  rw [bodies_same]
  rfl

/-- The frame of the kernel on the chip's floats. -/
theorem frame_kernel : Cert.quiescent_Kernel := by
  intro m ρ _
  rw [defs_same]
  exact frame_any (F := Bits) m ρ

/-- The frame of the kernel over the extended reals. -/
theorem frame_ideal : Cert.quiescent_KernelIdeal := fun m ρ _ => frame_any (F := Ideal) m ρ

/-- The frame of the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.PrefixProof

end
-- ==== Proof.Value.lean ====
/-
What the kernel computes over the extended reals, one element at a time.
-/
module

public import proofs.«01_k».proof.Proof.Frames
public import Idealize.ShloMosaic.Lib.MatmulPlain
public import Idealize.ShloMosaic.Lib.IdealHost
public import Idealize.ShloMosaic.Lib.Pointwise
public import Idealize.ShloMosaic.Lib.ValueIdx
public import Idealize.ShloMosaic.Lib.WordCmp

@[expose] public section

noncomputable section

namespace Cert.PrefixProof

open Cert.KernelIdeal Cert.KernelIdeal.Gen
open Idealize.ShloMosaic Idealize.ShloMosaic.TcCoe

/-! ## The operations, one element at a time -/

/-- The kernel's matrix of ones. -/
theorem ones_at (i : S8x4096.Idx) : k0_pay1 (F := Ideal) i = 1 := by
  unfold k0_pay1
  pointwise []

/-- The kernel's triangular matrix: one on and below the diagonal, zero above it. -/
theorem tri_at (r k : Fin 256) : k0_pay7 (F := Ideal) (ix2 r k) = if k.val ≤ r.val then 1 else 0 := by
  have hc : IntOp.cmpi CmpIPredicate.sge (BitVec.ofNat 32 r.val) (BitVec.ofNat 32 k.val) = BitVec.ofBool (decide (k.val ≤ r.val)) :=
    WordCmp.cmpi_sge_ofNat (lt_trans r.isLt (by norm_num)) (lt_trans k.isLt (by norm_num))
  unfold k0_pay7
  pointwise []
  rw [hc]
  show (((BitVec.setWidth 32 (BitVec.ofBool (decide (k.val ≤ r.val)))).toInt : ℝ) : EReal) = _
  by_cases h : k.val ≤ r.val
  · rw [decide_eq_true h, if_pos h]
    have : (BitVec.setWidth 32 (BitVec.ofBool true)).toInt = 1 := by decide
    rw [this]; simp
  · rw [decide_eq_false h, if_neg h]
    have : (BitVec.setWidth 32 (BitVec.ofBool false)).toInt = 0 := by decide
    rw [this]; simp

/-- The column totals of a half: at each column the sum over all its rows. -/
theorem pay_tot_at (v : FVec Ideal S4096x512 .bf16) (j : Fin 512) :
    k0_pay4 (F := Ideal) (k0_pay3 v) (ix3 0 0 j) = ∑ k : Fin 4096, (v (ix2 k j) : EReal) := by
  unfold k0_pay4 k0_pay3
  pointwise [ones_at, one_mul]

/-- The prefix sums within a block: at each row the sum of the rows up to it. -/
theorem pay_mm_at (v : FVec Ideal S256x512 .bf16) (r : Fin 256) (j : Fin 512) :
    k0_pay9 (F := Ideal) k0_pay7 v (ix2 r j) = ∑ k : Fin 256, if k.val ≤ r.val then (v (ix2 k j) : EReal) else 0 := by
  unfold k0_pay9
  pointwise []
  refine Finset.sum_congr rfl fun k _ => ?_
  rw [tri_at]
  split
  · exact one_mul _
  · exact zero_mul _

/-- The last of those prefix sums is the block's total. -/
theorem pay_last_at (v : FVec Ideal S256x512 .bf16) (j : Fin 512) :
    k0_pay17 (F := Ideal) k0_pay7 v (ix2 0 j) = ∑ k : Fin 256, (v (ix2 k j) : EReal) := by
  unfold k0_pay17 k0_pay15
  pointwise []
  refine Finset.sum_congr rfl fun k _ => ?_
  rw [tri_at, if_pos (show k.val ≤ (255 : Fin 256).val from Nat.le_of_lt_succ k.isLt)]
  exact one_mul _

/-- The offset: the totals of those rows whose device comes before this one. -/
theorem pay_offs_at (w : BitVec 32) (v : FVec Ideal S4x1x512 .f32) (j : Fin 512) :
    k0_pay8 (F := Ideal) w v (ix2 0 j) = ∑ k : Fin 4, Scalar.select
      (IntOp.cmpi CmpIPredicate.slt (IntOp.remsi ArithUnit.vector (IntOp.addi w (BitVec.ofNat 32 k.val)) 4#32) w) (v (ix3 k 0 j)) (0 : EReal) := by
  unfold k0_pay8
  pointwise []

/-! ## Sums over ranges -/

/-- A sum over blocks of one size is the sum over all their positions. -/
theorem sum_blocks (f : ℕ → EReal) (b : ℕ) : ∀ n, ∑ d ∈ Finset.range n, ∑ r ∈ Finset.range b, f (b * d + r) = ∑ i ∈ Finset.range (b * n), f i
  | 0 => by simp
  | n + 1 => by rw [Finset.sum_range_succ, sum_blocks f b n, Nat.mul_succ, Finset.sum_range_add]

/-- A sum over `Fin n` that keeps the terms below `q` is the sum over the first `q` numbers. -/
theorem sum_below (f : ℕ → EReal) {n q : ℕ} (h : q ≤ n) : (∑ k : Fin n, if k.val < q then f k.val else 0) = ∑ i ∈ Finset.range q, f i := by
  rw [← Finset.sum_range (fun k => if k < q then f k else 0), ← Finset.sum_filter]
  refine Finset.sum_congr ?_ fun _ _ => rfl
  ext i
  simp only [Finset.mem_filter, Finset.mem_range]
  omega

/-! ## The kernel's result -/

variable (m : (ℓ : Loc nD τ sig) → Buf (Elt Ideal) ℓ)

set_option backward.proofsInPublic true in
/-- Row `R` of the array that the four devices hold together, at column `J`. -/
def whole (J : Fin 1024) (R : ℕ) : EReal :=
  (m (((⟨R / 4096 % 4, Nat.mod_lt _ (by decide)⟩ : Dev nD) : Thread nD τ).loc main_arg0) : S4096x1024.Idx → EReal)
    (ix2 ⟨R % 4096, Nat.mod_lt _ (by decide)⟩ J)

/-- Column `j` of half `g`. -/
def colOf (g : Fin 2) (j : Fin 512) : Fin 1024 := ⟨512 * g.val + j.val, by have := g.isLt; have := j.isLt; omega⟩

/-- An element of a device's block is an element of the whole. -/
theorem own_at (c : Dev nD) (r : ℕ) (hr : r < 4096) (J : Fin 1024) (i : S4096x1024.Idx) (h0 : (i 0).val = r) (h1 : (i 1).val = J.val) :
    (xbOf m c : S4096x1024.Idx → EReal) i = whole m J (4096 * c.val + r) := by
  have hc : c.val < 4 := c.isLt
  unfold xbOf
  rw [staged_x]
  show (m ((c : Thread nD τ).loc main_arg0) : S4096x1024.Idx → EReal) i = _
  unfold whole
  have ec : (⟨(4096 * c.val + r) / 4096 % 4, Nat.mod_lt _ (by decide)⟩ : Dev nD) = c := Fin.ext (by show (4096 * c.val + r) / 4096 % 4 = c.val; omega)
  rw [ec]
  congr 1
  funext a
  match a with
  | ⟨0, _⟩ => exact Fin.ext (by show (i 0).val = (4096 * c.val + r) % 4096; omega)
  | ⟨1, _⟩ => exact Fin.ext h1

theorem xhalf_at (c : Dev nD) (g : Fin 2) (k : Fin 4096) (j : Fin 512) :
    (xhalf m c g (ix2 k j) : EReal) = whole m (colOf g j) (4096 * c.val + k.val) := by
  show (xbOf m c : S4096x1024.Idx → EReal) ((halfR g).emb (ix2 k j)) = _
  exact own_at m c k.val k.isLt (colOf g j) _ (by show 0 + 1 * k.val = k.val; omega) (by show 512 * g.val + 1 * j.val = 512 * g.val + j.val; omega)

theorem xblk_at (c : Dev nD) (g : Fin 2) (n : Fin 16) (k : Fin 256) (j : Fin 512) :
    (xblk m c g n (ix2 k j) : EReal) = whole m (colOf g j) (4096 * c.val + (256 * n.val + k.val)) := by
  show (xbOf m c : S4096x1024.Idx → EReal) ((blkR n g).emb (ix2 k j)) = _
  exact own_at m c (256 * n.val + k.val) (by have := n.isLt; have := k.isLt; omega) (colOf g j) _
    (by show 256 * n.val + 1 * k.val = 256 * n.val + k.val; omega) (by show 512 * g.val + 1 * j.val = 512 * g.val + j.val; omega)

/-- A device's totals: the sums of its own rows. -/
theorem tot_at (c : Dev nD) (g : Fin 2) (j : Fin 512) :
    (tot m c g (ix3 0 0 j) : EReal) = ∑ r ∈ Finset.range 4096, whole m (colOf g j) (4096 * c.val + r) := by
  unfold tot
  rw [pay_tot_at, Finset.sum_range]
  exact Finset.sum_congr rfl fun k _ => xhalf_at m c g k j

theorem tots_at (c : Dev nD) (g : Fin 2) (k : Fin 4) (j : Fin 512) :
    (tots m c g (ix3 k 0 j) : EReal) = tot m (sh c k) g (ix3 0 0 j) := by
  have hj := j.isLt
  show commOf m c ((colR g).emb (ix3 k 0 j)) = _
  have e0 : ((colR g).emb (ix3 k 0 j) 0).val = 0 + 1 * k.val := rfl
  have e2 : ((colR g).emb (ix3 k 0 j) 2).val = 512 * g.val + 1 * j.val := rfl
  have es : (colR g).emb (ix3 k 0 j) 0 = k := Fin.ext (by rw [e0]; omega)
  unfold commOf
  rw [es]
  congr 1
  · exact Fin.ext (by show ((colR g).emb (ix3 k 0 j) 2).val / 512 = g.val; rw [e2]; omega)
  · funext a
    match a with
    | ⟨0, _⟩ => rfl
    | ⟨1, _⟩ => rfl
    | ⟨2, _⟩ => exact Fin.ext (by show ((colR g).emb (ix3 k 0 j) 2).val % 512 = j.val; rw [e2]; omega)

/-- The kernel's test of a row of totals: whether its device comes before this one. -/
theorem before_at (c k : Fin 4) : IntOp.cmpi CmpIPredicate.slt (IntOp.remsi ArithUnit.vector (IntOp.addi (devW c) (BitVec.ofNat 32 k.val)) 4#32) (devW c)
    = if (sh c k).val < c.val then 1#1 else 0#1 := by
  revert c k; decide +kernel

/-- Every device is reached from `c` at one distance. -/
theorem sh_bijective (c : Dev nD) : Function.Bijective (sh c) := by revert c; decide

/-- The offset: the sum of all the rows of the devices before. -/
theorem offs_at (c : Dev nD) (g : Fin 2) (j : Fin 512) :
    (offs m c g (ix2 0 j) : EReal) = ∑ i ∈ Finset.range (4096 * c.val), whole m (colOf g j) i := by
  unfold offs
  rw [pay_offs_at, ← sum_blocks, ← sum_below (fun d => ∑ r ∈ Finset.range 4096, whole m (colOf g j) (4096 * d + r)) (Nat.le_of_lt c.isLt),
    ← (sh_bijective c).sum_comp (fun d : Fin 4 => if d.val < c.val then ∑ r ∈ Finset.range 4096, whole m (colOf g j) (4096 * d.val + r) else 0)]
  refine Finset.sum_congr rfl fun k _ => ?_
  rw [before_at, tots_at, tot_at]
  split <;> rfl

/-- What precedes the `n`-th 256 rows of a device: every row of the whole before them. -/
theorem carry_at (c : Dev nD) (g : Fin 2) (j : Fin 512) : ∀ n ≤ 16,
    (carry m c g n (ix2 0 j) : EReal) = ∑ i ∈ Finset.range (4096 * c.val + 256 * n), whole m (colOf g j) i
  | 0, _ => offs_at m c g j
  | n + 1, hn => by
    have hv : (Fin.ofNat 16 n).val = n := Nat.mod_eq_of_lt hn
    show (carry m c g n (ix2 0 j) : EReal) + last m c g (Fin.ofNat 16 n) (ix2 0 j) = _
    rw [carry_at c g j n (Nat.le_of_succ_le hn), Nat.mul_succ, ← Nat.add_assoc, Finset.sum_range_add _ (4096 * c.val + 256 * n)]
    congr 1
    unfold last
    rw [pay_last_at, Finset.sum_range]
    exact Finset.sum_congr rfl fun k _ => by rw [xblk_at, hv, Nat.add_assoc]

/-- An element of the result's `n`-th 256 rows. -/
theorem outBlk_at (c : Dev nD) (g : Fin 2) (n : Fin 16) (r : Fin 256) (j : Fin 512) :
    (outBlk m c g n (ix2 r j) : EReal) = ∑ i ∈ Finset.range (4096 * c.val + (256 * n.val + r.val) + 1), whole m (colOf g j) i := by
  have hb : (broadcastTo S256x512 (carry m c g n.val) broadcasts_S1x512_S256x512 : FVec Ideal S256x512 .f32) (ix2 r j) = carry m c g n.val (ix2 0 j) := by
    pointwise []
  unfold outBlk
  show (mm m c g n (ix2 r j) : EReal) + (broadcastTo S256x512 (carry m c g n.val) broadcasts_S1x512_S256x512 : FVec Ideal S256x512 .f32) (ix2 r j) = _
  rw [hb, carry_at m c g j n.val (Nat.le_of_lt n.isLt), add_comm]
  rw [show 4096 * c.val + (256 * n.val + r.val) + 1 = 4096 * c.val + 256 * n.val + (r.val + 1) by omega, Finset.sum_range_add _ (4096 * c.val + 256 * n.val)]
  congr 1
  unfold mm
  rw [pay_mm_at, ← sum_below (fun k => whole m (colOf g j) (4096 * c.val + 256 * n.val + k)) (Nat.succ_le_of_lt r.isLt)]
  refine Finset.sum_congr rfl fun k _ => ?_
  rw [xblk_at]
  simp only [Nat.lt_succ_iff, Nat.add_assoc]

/-- The result on device `c`: at each of its rows, the sum of every row of the whole up to it. -/
theorem out_at (c : Dev nD) (i : S4096x1024.Idx) :
    (outOf m c i : EReal) = ∑ k ∈ Finset.range (4096 * c.val + (i 0).val + 1), whole m (i 1) k := by
  have h0 : (i 0).val < 4096 := (i 0).isLt
  have h1 : (i 1).val < 1024 := (i 1).isLt
  have e := outBlk_at m c ⟨(i 1).val / 512, by omega⟩ ⟨(i 0).val / 256, by omega⟩ ⟨(i 0).val % 256, Nat.mod_lt _ (by decide)⟩ ⟨(i 1).val % 512, Nat.mod_lt _ (by decide)⟩
  have ej : colOf ⟨(i 1).val / 512, by omega⟩ ⟨(i 1).val % 512, Nat.mod_lt _ (by decide)⟩ = i 1 := Fin.ext (by show 512 * ((i 1).val / 512) + (i 1).val % 512 = (i 1).val; omega)
  rw [ej] at e
  have er : 256 * ((i 0).val / 256) + (i 0).val % 256 = (i 0).val := by omega
  have e' : (outOf m c i : EReal) = _ := e
  rw [e']
  show ∑ k ∈ Finset.range (4096 * c.val + (256 * ((i 0).val / 256) + (i 0).val % 256) + 1), whole m (i 1) k = _
  rw [er]

end Cert.PrefixProof

end
-- ==== Proof.Reference.lean ====
/-
What the reference computes over the extended reals: its window sum is, at every row, the sum of the rows up to it.
-/
module

public import proofs.«01_k».proof.Defs
public import proofs.«01_k».proof.Proof.Gen.ReferenceIdeal
public import Idealize.ShloMosaic.Lib.IdealHost
public import Idealize.ShloMosaic.Lib.Pointwise

@[expose] public section

noncomputable section

namespace Cert.PrefixProof

open Cert.ReferenceIdeal Cert.ReferenceIdeal.Gen
open Idealize.ShloMosaic Idealize.ShloMosaic.TcCoe

/-- A fold of additions is its start and a sum. -/
theorem foldl_sum {ι : Type} (f : ι → EReal) : ∀ (l : List ι) (v : EReal), l.foldl (fun r n => r + f n) v = v + (l.map f).sum
  | [], v => by simp
  | a :: l, v => by rw [List.foldl_cons, foldl_sum f l, List.map_cons, List.sum_cons, add_assoc]

/-- A window sum from zero is the sum over the window's indices. -/
theorem window_sum {s t u : Shape} (window strides lo hi : Fin s.rank → Nat) (x : FVec Ideal s .f32) (init : FVec Ideal u .f32)
    (h : s.ReduceWindows window strides lo hi t) (hu : 0 < u.numel) (hi0 : (init (Shape.Idx.first hu) : EReal) = 0) (j : t.Idx) :
    (Host.reduceWindowAdd (F := Ideal) window strides lo hi x init h hu j : EReal) = ∑ w : (⟨s.rank, window⟩ : Shape).Idx,
      if hin : ∀ a, lo a ≤ (j (a.cast h.1.symm)).val * strides a + (w a).val ∧ (j (a.cast h.1.symm)).val * strides a + (w a).val - lo a < s.size a
      then (x (fun a => ⟨(j (a.cast h.1.symm)).val * strides a + (w a).val - lo a, (hin a).2⟩) : EReal) else 0 := by
  unfold Host.reduceWindowAdd
  rw [hi0, Ideal.hostReduceWindowAdd_def]
  rw [← Equiv.sum_comp (⟨s.rank, window⟩ : Shape).rowMajor.symm, Fin.sum_univ_def]
  refine (foldl_sum _ _ _).trans ?_
  rw [zero_add]
  exact congrArg List.sum (List.map_congr_left fun n _ => dite_congr rfl (fun _ => rfl) fun _ => rfl)

/-- Row `i` of the reference's array, at column `J`. -/
def rowOf (x : S16384x1024.Idx → EReal) (J : Fin 1024) (i : ℕ) : EReal := x (ix2 ⟨i % 16384, Nat.mod_lt _ (by decide)⟩ J)

/-- A window that reaches back from row `R` beyond the first row meets the rows up to `R`, each once. -/
theorem window_rows (f : ℕ → EReal) (b R : ℕ) (hR : R ≤ b) :
    (∑ a : Fin (b + 1), if b ≤ R + a.val then f (R + a.val - b) else 0) = ∑ i ∈ Finset.range (R + 1), f i := by
  rw [← Finset.sum_range (fun a => if b ≤ R + a then f (R + a - b) else 0), show b + 1 = (b - R) + (R + 1) by omega, Finset.sum_range_add,
    Finset.sum_eq_zero (fun a ha => if_neg (by have := Finset.mem_range.mp ha; omega)), zero_add]
  refine Finset.sum_congr rfl fun i _ => ?_
  rw [if_pos (by omega)]
  congr 1
  omega

set_option backward.proofsInPublic true in
/-- The reference's result: at each row the sum of every row up to it. -/
theorem reference_at (x : FVec Ideal S16384x1024 .f32) (R : Fin 16384) (J : Fin 1024) :
    (Host.reduceWindowAdd (F := Ideal) ![16384, 1] ![1, 1] ![16383, 0] ![0, 0] x
      (broadcastInDim S_ ![] bcast_S_S_ (constant S_ .f32 0x00000000#32)) reduceWindows_S16384x1024_S16384x1024_w16384s1p16383_0_w1s1p0_0 h_S_ (ix2 R J) : EReal)
      = ∑ i ∈ Finset.range (R.val + 1), rowOf x J i := by
  have hz : (broadcastInDim S_ ![] bcast_S_S_ (constant (F := Ideal) S_ .f32 0x00000000#32) : FVec Ideal S_ .f32) (Shape.Idx.first h_S_) = (0 : EReal) := by
    pointwise []
  have e := window_sum ![16384, 1] ![1, 1] ![16383, 0] ![0, 0] x (broadcastInDim S_ ![] bcast_S_S_ (constant (F := Ideal) S_ .f32 0x00000000#32))
    reduceWindows_S16384x1024_S16384x1024_w16384s1p16383_0_w1s1p0_0 h_S_ hz (ix2 R J)
  refine e.trans ?_
  refine (sum_idx2 (n0 := 16384) (n1 := 1) _).trans ?_
  rw [← window_rows (rowOf x J) 16383 R.val (by have := R.isLt; omega)]
  refine Finset.sum_congr rfl fun a _ => ?_
  rw [Fin.sum_univ_one]
  have ha := a.isLt
  have hR := R.isLt
  by_cases h : 16383 ≤ R.val + a.val
  · rw [if_pos h, dif_pos]
    · unfold rowOf
      refine congrArg x (funext fun b => ?_)
      match b with
      | ⟨0, _⟩ => exact Fin.ext (by show R.val * 1 + a.val - 16383 = (R.val + a.val - 16383) % 16384; omega)
      | ⟨1, _⟩ => exact Fin.ext (by show J.val * 1 + 0 - 0 = J.val; omega)
    · intro b
      match b with
      | ⟨0, _⟩ => exact ⟨by show 16383 ≤ R.val * 1 + a.val; omega, by show R.val * 1 + a.val - 16383 < 16384; omega⟩
      | ⟨1, _⟩ => exact ⟨Nat.zero_le _, by show J.val * 1 + 0 - 0 < 1024; have := J.isLt; omega⟩
  · rw [if_neg h, dif_neg]
    intro hin
    have h0 : 16383 ≤ R.val * 1 + a.val := (hin 0).1
    omega

end Cert.PrefixProof

end
-- ==== Proof.Algebraic.lean ====
/-
The value claim: over the extended reals the four devices' results are the blocks of the reference's result.
-/
module

public import proofs.«01_k».proof.Proof.Value
public import proofs.«01_k».proof.Proof.Reference

@[expose] public section

noncomputable section

namespace Cert.PrefixProof

open Idealize.ShloMosaic Idealize.ShloMosaic.TcCoe
open Idealize.SL Idealize.SL.Sem

/-- The devices' blocks together are the reference's array, row by row. -/
theorem whole_row (m : (ℓ : Loc Cert.KernelIdeal.nD Cert.KernelIdeal.τ Cert.KernelIdeal.sig) → Buf (Elt Ideal) ℓ)
    (x : (⟨2, ![16384, 1024]⟩ : Shape).Idx → EReal)
    (hx : ∀ c : Dev Cert.KernelIdeal.nD, m ((c.tc : Thread Cert.KernelIdeal.nD Cert.KernelIdeal.τ).loc Cert.KernelIdeal.main_arg0)
      = Layout.block ⟨2, ![4096, 1024]⟩ ⟨2, ![16384, 1024]⟩ 0 4 c x) (J : Fin 1024) (i : ℕ) (hi : i < 16384) :
    whole m J i = rowOf x J i := by
  unfold whole rowOf
  refine (congrFun (hx _) _).trans ?_
  rw [Layout.block_apply]
  congr 1
  funext a
  match a with
  | ⟨0, _⟩ => exact Fin.ext (by show i / 4096 % 4 * 4096 + i % 4096 = i % 16384; omega)
  | ⟨1, _⟩ => rfl

/-- The kernel and the reference compute the same array. -/
theorem algebraic : Cert.algebraic_KernelIdeal_ReferenceIdeal := by
  intro m ρ m' ρ' _ hagree
  refine ⟨_, ?_, (θ_run Cert.ReferenceIdeal.defs _ _).mono (fun r h => h 0) (Cert.ReferenceIdeal.Value.run (F := Ideal) m' ρ')⟩
  refine (θ_run Cert.KernelIdeal.defs _ _).mono (fun r h c => ⟨?_, (h.1 c (0 : Fin 2)).trans (final_x m ρ c)⟩) (run_main (F := Ideal) m ρ)
  refine ((h.1 c (1 : Fin 2)).trans (final_out m ρ c)).trans ?_
  funext i
  have h0 : (i 0).val < 4096 := (i 0).isLt
  have hc : c.val < 4 := c.isLt
  refine (out_at m c i).trans ?_
  rw [Layout.block_apply]
  have ei : ∀ h : Layout.Tiles ⟨2, ![4096, 1024]⟩ ⟨2, ![16384, 1024]⟩ 0 4, h.idx c i = ix2 (n0 := 16384) (n1 := 1024) ⟨c.val * 4096 + (i 0).val, by omega⟩ (i 1) := fun h => by
    funext a
    match a with
    | ⟨0, _⟩ => rfl
    | ⟨1, _⟩ => rfl
  rw [ei]
  refine Eq.trans ?_ (reference_at _ _ _).symm
  rw [Nat.mul_comm 4096]
  have key : ∀ n ≤ 16384, ∀ J, (∑ k ∈ Finset.range n, whole m J k) = ∑ k ∈ Finset.range n, rowOf _ J k := fun n hn J =>
    Finset.sum_congr rfl fun k hk => whole_row m _ hagree J k (lt_of_lt_of_le (Finset.mem_range.mp hk) hn)
  exact key (c.val * 4096 + (i 0).val + 1) (by omega) (i 1)

end Cert.PrefixProof

end
-- ==== Proof.lean ====
/-
The certificate of the prefix-sum kernel: the claims of Defs.lean, each from the module that proves it.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The claims, one by one. -/
theorem claim : Cert.Claim := ⟨Cert.Kernel.Gen.facts, Cert.KernelIdeal.Gen.facts, Cert.ReferenceIdeal.Gen.facts,
  PrefixProof.frame_kernel, PrefixProof.frame_ideal, PrefixProof.frame_reference, trivial, PrefixProof.algebraic⟩

end Cert.Proof

end
